-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S2x512x2048 : Shape := ⟨3, ![2, 512, 2048]⟩
abbrev S32x8x128 : Shape := ⟨3, ![32, 8, 128]⟩
abbrev S31 : Shape := ⟨1, ![31]⟩
abbrev S2 : Shape := ⟨1, ![2]⟩
abbrev S_ : Shape := ⟨0, ![]⟩
abbrev S128x128 : Shape := ⟨2, ![128, 128]⟩
abbrev S1 : Shape := ⟨1, ![1]⟩
abbrev S1x512x2048 : Shape := ⟨3, ![1, 512, 2048]⟩
abbrev S512x2048 : Shape := ⟨2, ![512, 2048]⟩
abbrev S128x512 : Shape := ⟨2, ![128, 512]⟩
abbrev S1x128x2048 : Shape := ⟨3, ![1, 128, 2048]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S128x4096, .f32⟩
  | .local _ .vmem, ⟨3, _⟩ => ⟨S2x512x2048, .f32⟩
  | .local _ .vmem, ⟨4, _⟩ => ⟨S32x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) : Fin 2 → Nat :=
  let c0_126 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_125 : BitVec 32 := 128#32
  let v132 : BitVec 32 := Scalar.muli v2 c128_i32_125
  let v133 : Index := Scalar.indexCast v132
  ![0, v133.toNat]
def k0_off3 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v140 : BitVec 32 := Scalar.muli v2 c128_i32_130
  ![0, v140.toNat]
def k0_off4 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_127
  let c32_i32_128 : BitVec 32 := 32#32
  let v138 : BitVec 32 := Scalar.remsi v137 c32_i32_128
  let c128_i32_129 : BitVec 32 := 128#32
  let v139 : BitVec 32 := Scalar.muli v138 c128_i32_129
  let c0_i32_136 : BitVec 32 := 0#32
  ![v139.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v137 : BitVec 32 := Scalar.addi v2 c1_i32_127
  let c32_i32_128 : BitVec 32 := 32#32
  let v138 : BitVec 32 := Scalar.remsi v137 c32_i32_128
  let c1_i32_133 : BitVec 32 := 1#32
  let v141 : BitVec 32 := Scalar.muli v138 c1_i32_133
  let v142 : BitVec 32 := Scalar.addi c0_i32_134 v141
  v142.toNat
def k0_dev33 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v149 : BitVec 32 := Scalar.addi v2 c2_i32_137
  let c32_i32_138 : BitVec 32 := 32#32
  let v150 : BitVec 32 := Scalar.remsi v149 c32_i32_138
  let c1_i32_143 : BitVec 32 := 1#32
  let v153 : BitVec 32 := Scalar.muli v150 c1_i32_143
  let v154 : BitVec 32 := Scalar.addi c0_i32_144 v153
  v154.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v161 : BitVec 32 := Scalar.addi v2 c3_i32_147
  let c32_i32_148 : BitVec 32 := 32#32
  let v162 : BitVec 32 := Scalar.remsi v161 c32_i32_148
  let c1_i32_153 : BitVec 32 := 1#32
  let v165 : BitVec 32 := Scalar.muli v162 c1_i32_153
  let v166 : BitVec 32 := Scalar.addi c0_i32_154 v165
  v166.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_157 : BitVec 32 := 4#32
  let v173 : BitVec 32 := Scalar.addi v2 c4_i32_157
  let c32_i32_158 : BitVec 32 := 32#32
  let v174 : BitVec 32 := Scalar.remsi v173 c32_i32_158
  let c1_i32_163 : BitVec 32 := 1#32
  let v177 : BitVec 32 := Scalar.muli v174 c1_i32_163
  let v178 : BitVec 32 := Scalar.addi c0_i32_164 v177
  v178.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v185 : BitVec 32 := Scalar.addi v2 c5_i32_167
  let c32_i32_168 : BitVec 32 := 32#32
  let v186 : BitVec 32 := Scalar.remsi v185 c32_i32_168
  let c1_i32_173 : BitVec 32 := 1#32
  let v189 : BitVec 32 := Scalar.muli v186 c1_i32_173
  let v190 : BitVec 32 := Scalar.addi c0_i32_174 v189
  v190.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v197 : BitVec 32 := Scalar.addi v2 c6_i32_177
  let c32_i32_178 : BitVec 32 := 32#32
  let v198 : BitVec 32 := Scalar.remsi v197 c32_i32_178
  let c1_i32_183 : BitVec 32 := 1#32
  let v201 : BitVec 32 := Scalar.muli v198 c1_i32_183
  let v202 : BitVec 32 := Scalar.addi c0_i32_184 v201
  v202.toNat
def k0_dev38 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_187 : BitVec 32 := 7#32
  let v209 : BitVec 32 := Scalar.addi v2 c7_i32_187
  let c32_i32_188 : BitVec 32 := 32#32
  let v210 : BitVec 32 := Scalar.remsi v209 c32_i32_188
  let c1_i32_193 : BitVec 32 := 1#32
  let v213 : BitVec 32 := Scalar.muli v210 c1_i32_193
  let v214 : BitVec 32 := Scalar.addi c0_i32_194 v213
  v214.toNat
def k0_dev39 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v221 : BitVec 32 := Scalar.addi v2 c8_i32_197
  let c32_i32_198 : BitVec 32 := 32#32
  let v222 : BitVec 32 := Scalar.remsi v221 c32_i32_198
  let c1_i32_203 : BitVec 32 := 1#32
  let v225 : BitVec 32 := Scalar.muli v222 c1_i32_203
  let v226 : BitVec 32 := Scalar.addi c0_i32_204 v225
  v226.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_207 : BitVec 32 := 9#32
  let v233 : BitVec 32 := Scalar.addi v2 c9_i32_207
  let c32_i32_208 : BitVec 32 := 32#32
  let v234 : BitVec 32 := Scalar.remsi v233 c32_i32_208
  let c1_i32_213 : BitVec 32 := 1#32
  let v237 : BitVec 32 := Scalar.muli v234 c1_i32_213
  let v238 : BitVec 32 := Scalar.addi c0_i32_214 v237
  v238.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v245 : BitVec 32 := Scalar.addi v2 c10_i32_217
  let c32_i32_218 : BitVec 32 := 32#32
  let v246 : BitVec 32 := Scalar.remsi v245 c32_i32_218
  let c1_i32_223 : BitVec 32 := 1#32
  let v249 : BitVec 32 := Scalar.muli v246 c1_i32_223
  let v250 : BitVec 32 := Scalar.addi c0_i32_224 v249
  v250.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v257 : BitVec 32 := Scalar.addi v2 c11_i32_227
  let c32_i32_228 : BitVec 32 := 32#32
  let v258 : BitVec 32 := Scalar.remsi v257 c32_i32_228
  let c1_i32_233 : BitVec 32 := 1#32
  let v261 : BitVec 32 := Scalar.muli v258 c1_i32_233
  let v262 : BitVec 32 := Scalar.addi c0_i32_234 v261
  v262.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v269 : BitVec 32 := Scalar.addi v2 c12_i32_237
  let c32_i32_238 : BitVec 32 := 32#32
  let v270 : BitVec 32 := Scalar.remsi v269 c32_i32_238
  let c1_i32_243 : BitVec 32 := 1#32
  let v273 : BitVec 32 := Scalar.muli v270 c1_i32_243
  let v274 : BitVec 32 := Scalar.addi c0_i32_244 v273
  v274.toNat
def k0_dev44 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_247 : BitVec 32 := 13#32
  let v281 : BitVec 32 := Scalar.addi v2 c13_i32_247
  let c32_i32_248 : BitVec 32 := 32#32
  let v282 : BitVec 32 := Scalar.remsi v281 c32_i32_248
  let c1_i32_253 : BitVec 32 := 1#32
  let v285 : BitVec 32 := Scalar.muli v282 c1_i32_253
  let v286 : BitVec 32 := Scalar.addi c0_i32_254 v285
  v286.toNat
def k0_dev45 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_257 : BitVec 32 := 14#32
  let v293 : BitVec 32 := Scalar.addi v2 c14_i32_257
  let c32_i32_258 : BitVec 32 := 32#32
  let v294 : BitVec 32 := Scalar.remsi v293 c32_i32_258
  let c1_i32_263 : BitVec 32 := 1#32
  let v297 : BitVec 32 := Scalar.muli v294 c1_i32_263
  let v298 : BitVec 32 := Scalar.addi c0_i32_264 v297
  v298.toNat
def k0_dev46 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_267 : BitVec 32 := 15#32
  let v305 : BitVec 32 := Scalar.addi v2 c15_i32_267
  let c32_i32_268 : BitVec 32 := 32#32
  let v306 : BitVec 32 := Scalar.remsi v305 c32_i32_268
  let c1_i32_273 : BitVec 32 := 1#32
  let v309 : BitVec 32 := Scalar.muli v306 c1_i32_273
  let v310 : BitVec 32 := Scalar.addi c0_i32_274 v309
  v310.toNat
def k0_dev47 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_277 : BitVec 32 := 16#32
  let v317 : BitVec 32 := Scalar.addi v2 c16_i32_277
  let c32_i32_278 : BitVec 32 := 32#32
  let v318 : BitVec 32 := Scalar.remsi v317 c32_i32_278
  let c1_i32_283 : BitVec 32 := 1#32
  let v321 : BitVec 32 := Scalar.muli v318 c1_i32_283
  let v322 : BitVec 32 := Scalar.addi c0_i32_284 v321
  v322.toNat
def k0_dev48 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_287 : BitVec 32 := 17#32
  let v329 : BitVec 32 := Scalar.addi v2 c17_i32_287
  let c32_i32_288 : BitVec 32 := 32#32
  let v330 : BitVec 32 := Scalar.remsi v329 c32_i32_288
  let c1_i32_293 : BitVec 32 := 1#32
  let v333 : BitVec 32 := Scalar.muli v330 c1_i32_293
  let v334 : BitVec 32 := Scalar.addi c0_i32_294 v333
  v334.toNat
def k0_dev49 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v341 : BitVec 32 := Scalar.addi v2 c18_i32_297
  let c32_i32_298 : BitVec 32 := 32#32
  let v342 : BitVec 32 := Scalar.remsi v341 c32_i32_298
  let c1_i32_303 : BitVec 32 := 1#32
  let v345 : BitVec 32 := Scalar.muli v342 c1_i32_303
  let v346 : BitVec 32 := Scalar.addi c0_i32_304 v345
  v346.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v353 : BitVec 32 := Scalar.addi v2 c19_i32_307
  let c32_i32_308 : BitVec 32 := 32#32
  let v354 : BitVec 32 := Scalar.remsi v353 c32_i32_308
  let c1_i32_313 : BitVec 32 := 1#32
  let v357 : BitVec 32 := Scalar.muli v354 c1_i32_313
  let v358 : BitVec 32 := Scalar.addi c0_i32_314 v357
  v358.toNat
def k0_dev51 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v365 : BitVec 32 := Scalar.addi v2 c20_i32_317
  let c32_i32_318 : BitVec 32 := 32#32
  let v366 : BitVec 32 := Scalar.remsi v365 c32_i32_318
  let c1_i32_323 : BitVec 32 := 1#32
  let v369 : BitVec 32 := Scalar.muli v366 c1_i32_323
  let v370 : BitVec 32 := Scalar.addi c0_i32_324 v369
  v370.toNat
def k0_dev52 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_327 : BitVec 32 := 21#32
  let v377 : BitVec 32 := Scalar.addi v2 c21_i32_327
  let c32_i32_328 : BitVec 32 := 32#32
  let v378 : BitVec 32 := Scalar.remsi v377 c32_i32_328
  let c1_i32_333 : BitVec 32 := 1#32
  let v381 : BitVec 32 := Scalar.muli v378 c1_i32_333
  let v382 : BitVec 32 := Scalar.addi c0_i32_334 v381
  v382.toNat
def k0_dev53 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v389 : BitVec 32 := Scalar.addi v2 c22_i32_337
  let c32_i32_338 : BitVec 32 := 32#32
  let v390 : BitVec 32 := Scalar.remsi v389 c32_i32_338
  let c1_i32_343 : BitVec 32 := 1#32
  let v393 : BitVec 32 := Scalar.muli v390 c1_i32_343
  let v394 : BitVec 32 := Scalar.addi c0_i32_344 v393
  v394.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_347 : BitVec 32 := 23#32
  let v401 : BitVec 32 := Scalar.addi v2 c23_i32_347
  let c32_i32_348 : BitVec 32 := 32#32
  let v402 : BitVec 32 := Scalar.remsi v401 c32_i32_348
  let c1_i32_353 : BitVec 32 := 1#32
  let v405 : BitVec 32 := Scalar.muli v402 c1_i32_353
  let v406 : BitVec 32 := Scalar.addi c0_i32_354 v405
  v406.toNat
def k0_dev55 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_357 : BitVec 32 := 24#32
  let v413 : BitVec 32 := Scalar.addi v2 c24_i32_357
  let c32_i32_358 : BitVec 32 := 32#32
  let v414 : BitVec 32 := Scalar.remsi v413 c32_i32_358
  let c1_i32_363 : BitVec 32 := 1#32
  let v417 : BitVec 32 := Scalar.muli v414 c1_i32_363
  let v418 : BitVec 32 := Scalar.addi c0_i32_364 v417
  v418.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v425 : BitVec 32 := Scalar.addi v2 c25_i32_367
  let c32_i32_368 : BitVec 32 := 32#32
  let v426 : BitVec 32 := Scalar.remsi v425 c32_i32_368
  let c1_i32_373 : BitVec 32 := 1#32
  let v429 : BitVec 32 := Scalar.muli v426 c1_i32_373
  let v430 : BitVec 32 := Scalar.addi c0_i32_374 v429
  v430.toNat
def k0_dev57 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v437 : BitVec 32 := Scalar.addi v2 c26_i32_377
  let c32_i32_378 : BitVec 32 := 32#32
  let v438 : BitVec 32 := Scalar.remsi v437 c32_i32_378
  let c1_i32_383 : BitVec 32 := 1#32
  let v441 : BitVec 32 := Scalar.muli v438 c1_i32_383
  let v442 : BitVec 32 := Scalar.addi c0_i32_384 v441
  v442.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_387 : BitVec 32 := 27#32
  let v449 : BitVec 32 := Scalar.addi v2 c27_i32_387
  let c32_i32_388 : BitVec 32 := 32#32
  let v450 : BitVec 32 := Scalar.remsi v449 c32_i32_388
  let c1_i32_393 : BitVec 32 := 1#32
  let v453 : BitVec 32 := Scalar.muli v450 c1_i32_393
  let v454 : BitVec 32 := Scalar.addi c0_i32_394 v453
  v454.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v461 : BitVec 32 := Scalar.addi v2 c28_i32_397
  let c32_i32_398 : BitVec 32 := 32#32
  let v462 : BitVec 32 := Scalar.remsi v461 c32_i32_398
  let c1_i32_403 : BitVec 32 := 1#32
  let v465 : BitVec 32 := Scalar.muli v462 c1_i32_403
  let v466 : BitVec 32 := Scalar.addi c0_i32_404 v465
  v466.toNat
def k0_dev60 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_407 : BitVec 32 := 29#32
  let v473 : BitVec 32 := Scalar.addi v2 c29_i32_407
  let c32_i32_408 : BitVec 32 := 32#32
  let v474 : BitVec 32 := Scalar.remsi v473 c32_i32_408
  let c1_i32_413 : BitVec 32 := 1#32
  let v477 : BitVec 32 := Scalar.muli v474 c1_i32_413
  let v478 : BitVec 32 := Scalar.addi c0_i32_414 v477
  v478.toNat
def k0_dev61 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v485 : BitVec 32 := Scalar.addi v2 c30_i32_417
  let c32_i32_418 : BitVec 32 := 32#32
  let v486 : BitVec 32 := Scalar.remsi v485 c32_i32_418
  let c1_i32_423 : BitVec 32 := 1#32
  let v489 : BitVec 32 := Scalar.muli v486 c1_i32_423
  let v490 : BitVec 32 := Scalar.addi c0_i32_424 v489
  v490.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v497 : BitVec 32 := Scalar.addi v2 c31_i32_427
  let c32_i32_428 : BitVec 32 := 32#32
  let v498 : BitVec 32 := Scalar.remsi v497 c32_i32_428
  let c1_i32_433 : BitVec 32 := 1#32
  let v501 : BitVec 32 := Scalar.muli v498 c1_i32_433
  let v502 : BitVec 32 := Scalar.addi c0_i32_434 v501
  v502.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v946 : Index := Scalar.indexCast v2
  let c0_908 : Index := 0#32
  let c0_909 : Index := 0#32
  ![v946.toNat, 0, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_916 : BitVec 32 := 0#32
  let c0_i32_917 : BitVec 32 := 0#32
  ![v2.toNat, 0, 0]
def k0_dev63 (d0 : Dev nD) : Nat :=
  let c0_i32_915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_910 : BitVec 32 := 1#32
  let v950 : BitVec 32 := Scalar.addi v2 c1_i32_910
  let c32_i32_911 : BitVec 32 := 32#32
  let v951 : BitVec 32 := Scalar.remsi v950 c32_i32_911
  let c1_i32_914 : BitVec 32 := 1#32
  let v952 : BitVec 32 := Scalar.muli v951 c1_i32_914
  let v953 : BitVec 32 := Scalar.addi c0_i32_915 v952
  v953.toNat
def k0_dev64 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_920 : BitVec 32 := 2#32
  let v960 : BitVec 32 := Scalar.addi v2 c2_i32_920
  let c32_i32_921 : BitVec 32 := 32#32
  let v961 : BitVec 32 := Scalar.remsi v960 c32_i32_921
  let c1_i32_924 : BitVec 32 := 1#32
  let v962 : BitVec 32 := Scalar.muli v961 c1_i32_924
  let v963 : BitVec 32 := Scalar.addi c0_i32_925 v962
  v963.toNat
def k0_dev65 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_930 : BitVec 32 := 3#32
  let v970 : BitVec 32 := Scalar.addi v2 c3_i32_930
  let c32_i32_931 : BitVec 32 := 32#32
  let v971 : BitVec 32 := Scalar.remsi v970 c32_i32_931
  let c1_i32_934 : BitVec 32 := 1#32
  let v972 : BitVec 32 := Scalar.muli v971 c1_i32_934
  let v973 : BitVec 32 := Scalar.addi c0_i32_935 v972
  v973.toNat
def k0_dev66 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_940 : BitVec 32 := 4#32
  let v980 : BitVec 32 := Scalar.addi v2 c4_i32_940
  let c32_i32_941 : BitVec 32 := 32#32
  let v981 : BitVec 32 := Scalar.remsi v980 c32_i32_941
  let c1_i32_944 : BitVec 32 := 1#32
  let v982 : BitVec 32 := Scalar.muli v981 c1_i32_944
  let v983 : BitVec 32 := Scalar.addi c0_i32_945 v982
  v983.toNat
def k0_dev67 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_950 : BitVec 32 := 5#32
  let v990 : BitVec 32 := Scalar.addi v2 c5_i32_950
  let c32_i32_951 : BitVec 32 := 32#32
  let v991 : BitVec 32 := Scalar.remsi v990 c32_i32_951
  let c1_i32_954 : BitVec 32 := 1#32
  let v992 : BitVec 32 := Scalar.muli v991 c1_i32_954
  let v993 : BitVec 32 := Scalar.addi c0_i32_955 v992
  v993.toNat
def k0_dev68 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_960 : BitVec 32 := 6#32
  let v1000 : BitVec 32 := Scalar.addi v2 c6_i32_960
  let c32_i32_961 : BitVec 32 := 32#32
  let v1001 : BitVec 32 := Scalar.remsi v1000 c32_i32_961
  let c1_i32_964 : BitVec 32 := 1#32
  let v1002 : BitVec 32 := Scalar.muli v1001 c1_i32_964
  let v1003 : BitVec 32 := Scalar.addi c0_i32_965 v1002
  v1003.toNat
def k0_dev69 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_970 : BitVec 32 := 7#32
  let v1010 : BitVec 32 := Scalar.addi v2 c7_i32_970
  let c32_i32_971 : BitVec 32 := 32#32
  let v1011 : BitVec 32 := Scalar.remsi v1010 c32_i32_971
  let c1_i32_974 : BitVec 32 := 1#32
  let v1012 : BitVec 32 := Scalar.muli v1011 c1_i32_974
  let v1013 : BitVec 32 := Scalar.addi c0_i32_975 v1012
  v1013.toNat
def k0_dev70 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_980 : BitVec 32 := 8#32
  let v1020 : BitVec 32 := Scalar.addi v2 c8_i32_980
  let c32_i32_981 : BitVec 32 := 32#32
  let v1021 : BitVec 32 := Scalar.remsi v1020 c32_i32_981
  let c1_i32_984 : BitVec 32 := 1#32
  let v1022 : BitVec 32 := Scalar.muli v1021 c1_i32_984
  let v1023 : BitVec 32 := Scalar.addi c0_i32_985 v1022
  v1023.toNat
def k0_dev71 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_990 : BitVec 32 := 9#32
  let v1030 : BitVec 32 := Scalar.addi v2 c9_i32_990
  let c32_i32_991 : BitVec 32 := 32#32
  let v1031 : BitVec 32 := Scalar.remsi v1030 c32_i32_991
  let c1_i32_994 : BitVec 32 := 1#32
  let v1032 : BitVec 32 := Scalar.muli v1031 c1_i32_994
  let v1033 : BitVec 32 := Scalar.addi c0_i32_995 v1032
  v1033.toNat
def k0_dev72 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1000 : BitVec 32 := 10#32
  let v1040 : BitVec 32 := Scalar.addi v2 c10_i32_1000
  let c32_i32_1001 : BitVec 32 := 32#32
  let v1041 : BitVec 32 := Scalar.remsi v1040 c32_i32_1001
  let c1_i32_1004 : BitVec 32 := 1#32
  let v1042 : BitVec 32 := Scalar.muli v1041 c1_i32_1004
  let v1043 : BitVec 32 := Scalar.addi c0_i32_1005 v1042
  v1043.toNat
def k0_dev73 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1010 : BitVec 32 := 11#32
  let v1050 : BitVec 32 := Scalar.addi v2 c11_i32_1010
  let c32_i32_1011 : BitVec 32 := 32#32
  let v1051 : BitVec 32 := Scalar.remsi v1050 c32_i32_1011
  let c1_i32_1014 : BitVec 32 := 1#32
  let v1052 : BitVec 32 := Scalar.muli v1051 c1_i32_1014
  let v1053 : BitVec 32 := Scalar.addi c0_i32_1015 v1052
  v1053.toNat
def k0_dev74 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1020 : BitVec 32 := 12#32
  let v1060 : BitVec 32 := Scalar.addi v2 c12_i32_1020
  let c32_i32_1021 : BitVec 32 := 32#32
  let v1061 : BitVec 32 := Scalar.remsi v1060 c32_i32_1021
  let c1_i32_1024 : BitVec 32 := 1#32
  let v1062 : BitVec 32 := Scalar.muli v1061 c1_i32_1024
  let v1063 : BitVec 32 := Scalar.addi c0_i32_1025 v1062
  v1063.toNat
def k0_dev75 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1030 : BitVec 32 := 13#32
  let v1070 : BitVec 32 := Scalar.addi v2 c13_i32_1030
  let c32_i32_1031 : BitVec 32 := 32#32
  let v1071 : BitVec 32 := Scalar.remsi v1070 c32_i32_1031
  let c1_i32_1034 : BitVec 32 := 1#32
  let v1072 : BitVec 32 := Scalar.muli v1071 c1_i32_1034
  let v1073 : BitVec 32 := Scalar.addi c0_i32_1035 v1072
  v1073.toNat
def k0_dev76 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1040 : BitVec 32 := 14#32
  let v1080 : BitVec 32 := Scalar.addi v2 c14_i32_1040
  let c32_i32_1041 : BitVec 32 := 32#32
  let v1081 : BitVec 32 := Scalar.remsi v1080 c32_i32_1041
  let c1_i32_1044 : BitVec 32 := 1#32
  let v1082 : BitVec 32 := Scalar.muli v1081 c1_i32_1044
  let v1083 : BitVec 32 := Scalar.addi c0_i32_1045 v1082
  v1083.toNat
def k0_dev77 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1050 : BitVec 32 := 15#32
  let v1090 : BitVec 32 := Scalar.addi v2 c15_i32_1050
  let c32_i32_1051 : BitVec 32 := 32#32
  let v1091 : BitVec 32 := Scalar.remsi v1090 c32_i32_1051
  let c1_i32_1054 : BitVec 32 := 1#32
  let v1092 : BitVec 32 := Scalar.muli v1091 c1_i32_1054
  let v1093 : BitVec 32 := Scalar.addi c0_i32_1055 v1092
  v1093.toNat
def k0_dev78 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1060 : BitVec 32 := 16#32
  let v1100 : BitVec 32 := Scalar.addi v2 c16_i32_1060
  let c32_i32_1061 : BitVec 32 := 32#32
  let v1101 : BitVec 32 := Scalar.remsi v1100 c32_i32_1061
  let c1_i32_1064 : BitVec 32 := 1#32
  let v1102 : BitVec 32 := Scalar.muli v1101 c1_i32_1064
  let v1103 : BitVec 32 := Scalar.addi c0_i32_1065 v1102
  v1103.toNat
def k0_dev79 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1070 : BitVec 32 := 17#32
  let v1110 : BitVec 32 := Scalar.addi v2 c17_i32_1070
  let c32_i32_1071 : BitVec 32 := 32#32
  let v1111 : BitVec 32 := Scalar.remsi v1110 c32_i32_1071
  let c1_i32_1074 : BitVec 32 := 1#32
  let v1112 : BitVec 32 := Scalar.muli v1111 c1_i32_1074
  let v1113 : BitVec 32 := Scalar.addi c0_i32_1075 v1112
  v1113.toNat
def k0_dev80 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1080 : BitVec 32 := 18#32
  let v1120 : BitVec 32 := Scalar.addi v2 c18_i32_1080
  let c32_i32_1081 : BitVec 32 := 32#32
  let v1121 : BitVec 32 := Scalar.remsi v1120 c32_i32_1081
  let c1_i32_1084 : BitVec 32 := 1#32
  let v1122 : BitVec 32 := Scalar.muli v1121 c1_i32_1084
  let v1123 : BitVec 32 := Scalar.addi c0_i32_1085 v1122
  v1123.toNat
def k0_dev81 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1090 : BitVec 32 := 19#32
  let v1130 : BitVec 32 := Scalar.addi v2 c19_i32_1090
  let c32_i32_1091 : BitVec 32 := 32#32
  let v1131 : BitVec 32 := Scalar.remsi v1130 c32_i32_1091
  let c1_i32_1094 : BitVec 32 := 1#32
  let v1132 : BitVec 32 := Scalar.muli v1131 c1_i32_1094
  let v1133 : BitVec 32 := Scalar.addi c0_i32_1095 v1132
  v1133.toNat
def k0_dev82 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1100 : BitVec 32 := 20#32
  let v1140 : BitVec 32 := Scalar.addi v2 c20_i32_1100
  let c32_i32_1101 : BitVec 32 := 32#32
  let v1141 : BitVec 32 := Scalar.remsi v1140 c32_i32_1101
  let c1_i32_1104 : BitVec 32 := 1#32
  let v1142 : BitVec 32 := Scalar.muli v1141 c1_i32_1104
  let v1143 : BitVec 32 := Scalar.addi c0_i32_1105 v1142
  v1143.toNat
def k0_dev83 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1110 : BitVec 32 := 21#32
  let v1150 : BitVec 32 := Scalar.addi v2 c21_i32_1110
  let c32_i32_1111 : BitVec 32 := 32#32
  let v1151 : BitVec 32 := Scalar.remsi v1150 c32_i32_1111
  let c1_i32_1114 : BitVec 32 := 1#32
  let v1152 : BitVec 32 := Scalar.muli v1151 c1_i32_1114
  let v1153 : BitVec 32 := Scalar.addi c0_i32_1115 v1152
  v1153.toNat
def k0_dev84 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1120 : BitVec 32 := 22#32
  let v1160 : BitVec 32 := Scalar.addi v2 c22_i32_1120
  let c32_i32_1121 : BitVec 32 := 32#32
  let v1161 : BitVec 32 := Scalar.remsi v1160 c32_i32_1121
  let c1_i32_1124 : BitVec 32 := 1#32
  let v1162 : BitVec 32 := Scalar.muli v1161 c1_i32_1124
  let v1163 : BitVec 32 := Scalar.addi c0_i32_1125 v1162
  v1163.toNat
def k0_dev85 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1130 : BitVec 32 := 23#32
  let v1170 : BitVec 32 := Scalar.addi v2 c23_i32_1130
  let c32_i32_1131 : BitVec 32 := 32#32
  let v1171 : BitVec 32 := Scalar.remsi v1170 c32_i32_1131
  let c1_i32_1134 : BitVec 32 := 1#32
  let v1172 : BitVec 32 := Scalar.muli v1171 c1_i32_1134
  let v1173 : BitVec 32 := Scalar.addi c0_i32_1135 v1172
  v1173.toNat
def k0_dev86 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1140 : BitVec 32 := 24#32
  let v1180 : BitVec 32 := Scalar.addi v2 c24_i32_1140
  let c32_i32_1141 : BitVec 32 := 32#32
  let v1181 : BitVec 32 := Scalar.remsi v1180 c32_i32_1141
  let c1_i32_1144 : BitVec 32 := 1#32
  let v1182 : BitVec 32 := Scalar.muli v1181 c1_i32_1144
  let v1183 : BitVec 32 := Scalar.addi c0_i32_1145 v1182
  v1183.toNat
def k0_dev87 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1150 : BitVec 32 := 25#32
  let v1190 : BitVec 32 := Scalar.addi v2 c25_i32_1150
  let c32_i32_1151 : BitVec 32 := 32#32
  let v1191 : BitVec 32 := Scalar.remsi v1190 c32_i32_1151
  let c1_i32_1154 : BitVec 32 := 1#32
  let v1192 : BitVec 32 := Scalar.muli v1191 c1_i32_1154
  let v1193 : BitVec 32 := Scalar.addi c0_i32_1155 v1192
  v1193.toNat
def k0_dev88 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1160 : BitVec 32 := 26#32
  let v1200 : BitVec 32 := Scalar.addi v2 c26_i32_1160
  let c32_i32_1161 : BitVec 32 := 32#32
  let v1201 : BitVec 32 := Scalar.remsi v1200 c32_i32_1161
  let c1_i32_1164 : BitVec 32 := 1#32
  let v1202 : BitVec 32 := Scalar.muli v1201 c1_i32_1164
  let v1203 : BitVec 32 := Scalar.addi c0_i32_1165 v1202
  v1203.toNat
def k0_dev89 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1170 : BitVec 32 := 27#32
  let v1210 : BitVec 32 := Scalar.addi v2 c27_i32_1170
  let c32_i32_1171 : BitVec 32 := 32#32
  let v1211 : BitVec 32 := Scalar.remsi v1210 c32_i32_1171
  let c1_i32_1174 : BitVec 32 := 1#32
  let v1212 : BitVec 32 := Scalar.muli v1211 c1_i32_1174
  let v1213 : BitVec 32 := Scalar.addi c0_i32_1175 v1212
  v1213.toNat
def k0_dev90 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1180 : BitVec 32 := 28#32
  let v1220 : BitVec 32 := Scalar.addi v2 c28_i32_1180
  let c32_i32_1181 : BitVec 32 := 32#32
  let v1221 : BitVec 32 := Scalar.remsi v1220 c32_i32_1181
  let c1_i32_1184 : BitVec 32 := 1#32
  let v1222 : BitVec 32 := Scalar.muli v1221 c1_i32_1184
  let v1223 : BitVec 32 := Scalar.addi c0_i32_1185 v1222
  v1223.toNat
def k0_dev91 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1190 : BitVec 32 := 29#32
  let v1230 : BitVec 32 := Scalar.addi v2 c29_i32_1190
  let c32_i32_1191 : BitVec 32 := 32#32
  let v1231 : BitVec 32 := Scalar.remsi v1230 c32_i32_1191
  let c1_i32_1194 : BitVec 32 := 1#32
  let v1232 : BitVec 32 := Scalar.muli v1231 c1_i32_1194
  let v1233 : BitVec 32 := Scalar.addi c0_i32_1195 v1232
  v1233.toNat
def k0_dev92 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1200 : BitVec 32 := 30#32
  let v1240 : BitVec 32 := Scalar.addi v2 c30_i32_1200
  let c32_i32_1201 : BitVec 32 := 32#32
  let v1241 : BitVec 32 := Scalar.remsi v1240 c32_i32_1201
  let c1_i32_1204 : BitVec 32 := 1#32
  let v1242 : BitVec 32 := Scalar.muli v1241 c1_i32_1204
  let v1243 : BitVec 32 := Scalar.addi c0_i32_1205 v1242
  v1243.toNat
def k0_dev93 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1210 : BitVec 32 := 31#32
  let v1250 : BitVec 32 := Scalar.addi v2 c31_i32_1210
  let c32_i32_1211 : BitVec 32 := 32#32
  let v1251 : BitVec 32 := Scalar.remsi v1250 c32_i32_1211
  let c1_i32_1214 : BitVec 32 := 1#32
  let v1252 : BitVec 32 := Scalar.muli v1251 c1_i32_1214
  let v1253 : BitVec 32 := Scalar.addi c0_i32_1215 v1252
  v1253.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .fp8e4m3⟩
  | .hbm, ⟨19, _⟩ => ⟨S1x1, .f32⟩
  | .hbm, ⟨20, _⟩ => ⟨S4096x2048, .f32⟩
  | .local _ .vmem, ⟨0, _⟩ => ⟨S4096x2048, .fp8e4m3⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Loops.lean ====
module

public import proofs.«01_k».proof.Proof.Gen.KernelIdeal.Skeleton

/-! # The kernel's body as loops

The printed body is straight-line text: every loop of the source is unrolled. This module says the
same program as loops over the copy's number, so that one step of each loop is proved once. -/

@[expose] public section

noncomputable section

namespace Cert.KernelIdeal.Gen

open Idealize.ShloMosaic Idealize.SL.Sem

/-- Run `f 0`, `f 1`, …, `f (n - 1)` in turn, handing each the value of the one before. -/
def loop.{v} {Ef : Type → Type v} {A : Type} : (n : ℕ) → (Fin n → A → Prog Ef A) → A → Prog Ef A
  | 0, _, a => .ret a
  | n + 1, f, a => f 0 a >>= fun b => loop n (fun i => f i.succ) b

variable {F : FTy → Type} [FloatOps F]

/-- A program of one of the kernel's devices. -/
abbrev KProg (F : FTy → Type) (α : Type) := Prog (TpuEff nD τ sig (Elt F) Λ₀ .tc) α

/-- The device `w` places after `d` round the ring, as the program computes it. -/
def hop (d : Dev nD) (w : BitVec 32) : Nat :=
  (Scalar.addi 0#32 (Scalar.muli (Scalar.remsi (Scalar.addi (Scalar.remsi (Scalar.divsi (Dev.word d) 1#32) 32#32) w) 32#32) 1#32)).toNat

theorem hop_eq (d : Dev nD) (k : Fin 31) : hop d (BitVec.ofNat 32 (1 + k.val)) = (d.val + k.val + 1) % 32 := by
  revert d k; decide +kernel

theorem hop_lt (d : Dev nD) (k : Fin 31) : hop d (BitVec.ofNat 32 (1 + k.val)) < nD := by
  rw [hop_eq]; exact Nat.mod_lt _ (by decide)

/-- The device copy `k` of `d` goes to: `k + 1` places on. -/
def fwd (d : Dev nD) (k : Fin 31) : Dev nD := ⟨hop d (BitVec.ofNat 32 (1 + k.val)), hop_lt d k⟩

theorem inb31 (k : Fin 31) : ∀ a, (![k.val] : Fin 1 → Nat) a + S1.size a ≤ S31.size a := by
  revert k; decide
theorem inb2 (s : Fin 2) : ∀ a, (![s.val] : Fin 1 → Nat) a + S1.size a ≤ S2.size a := by
  revert s; decide
theorem inbW (s : Fin 2) : ∀ a, (![s.val, 0, 0] : Fin 3 → Nat) a + S1x512x2048.size a ≤ S2x512x2048.size a := by
  revert s; decide
theorem inbR (j : Fin 8) : ∀ a, (![512 * j.val, 0] : Fin 2 → Nat) a + S512x2048.size a ≤ S4096x2048.size a := by
  revert j; decide
theorem inbC (j : Fin 8) : ∀ a, (![0, 512 * j.val] : Fin 2 → Nat) a + S128x512.size a ≤ S128x4096.size a := by
  revert j; decide

/-- Semaphore `k` of an array of 31. -/
abbrev sem31 (a : DmaSems sig S31) (k : Fin 31) : DmaSem sig :=
  ((a.slice (Rect.unit (s := S31) ![k.val] S1.size (inb31 k))).squeeze S_ squeezes_S1_S_).sem
/-- Semaphore `s` of the pair guarding the weight buffer's slots. -/
abbrev sem2 (a : DmaSems sig S2) (s : Fin 2) : DmaSem sig :=
  ((a.slice (Rect.unit (s := S2) ![s.val] S1.size (inb2 s))).squeeze S_ squeezes_S1_S_).sem

/-- The rows of the device's `x` shard that copy `k` sends. -/
abbrev xRows (x : Memref sig .tc .vmem S4096x128 .f32) (d : Dev nD) (k : Fin 31) : Memref sig .tc .vmem S128x128 .f32 :=
  x.slice (Rect.unit (s := S4096x128) (k0_off4 d (BitVec.ofNat 32 (1 + k.val))) S128x128.size (k0_off4_inb d k)) (fun _ => rfl)
/-- The columns of the gathered `x` that device `d` writes. -/
abbrev xCols (xg : Memref sig .tc .vmem S128x4096 .f32) (d : Dev nD) : Memref sig .tc .vmem S128x128 .f32 :=
  xg.slice (Rect.unit (s := S128x4096) (k0_off3 d) S128x128.size (k0_off3_inb d)) (fun _ => rfl)
/-- Slot `s` of the weight buffer. -/
abbrev wSlot (wb : Memref sig .tc .vmem S2x512x2048 .f32) (s : Fin 2) : Memref sig .tc .vmem S512x2048 .f32 :=
  (wb.slice (Rect.unit (s := S2x512x2048) ![s.val, 0, 0] S1x512x2048.size (inbW s)) (fun _ => rfl)).squeeze S512x2048 squeezes_S1x512x2048_S512x2048
/-- Row chunk `j` of the weights. -/
abbrev wRows (w : Memref sig .tc .hbm S4096x2048 .f32) (j : Fin 8) : Memref sig .tc .hbm S512x2048 .f32 :=
  w.slice (Rect.unit (s := S4096x2048) ![512 * j.val, 0] S512x2048.size (inbR j)) (fun _ => rfl)
/-- The row of the table of maxima that device `d` writes. -/
abbrev aRow (am : Memref sig .tc .vmem S32x8x128 .f32) (d : Dev nD) : Memref sig .tc .vmem S1x8x128 .f32 :=
  am.slice (Rect.unit (s := S32x8x128) (k0_off6 d) S1x8x128.size (k0_off6_inb d)) (fun _ => rfl)

/-- The slot chunk `j` of the weights goes to. -/
def slotOf (j : Fin 8) : Fin 2 := ⟨j.val % 2, Nat.mod_lt _ (by decide)⟩

/-- One chunk's product added to the sum so far. -/
def mac (acc : FVec F S128x2048 .f32) (xc : Vec F S128x512 .f32) (wc : Vec F S1x512x2048 .f32) : FVec F S128x2048 .f32 :=
  addf acc (matmul dot_S128x512_S512x2048_S128x2048_1_0_0_1_n_n (some .fp32) xc
    (shapeCast S512x2048 wc shapeCasts_S1x512x2048_S512x2048) (constant S128x2048 .f32 0x00000000#32))

/-- The local maximum, spread over a row of the table. -/
def amaxOf (y : FVec F S128x2048 .f32) : FVec F S1x8x128 .f32 :=
  shapeCast S1x8x128 (broadcast S1x8x128 (extractAt ![0, 0, 0] (shapeCast S1x1x1 (multiReduction .maximumf [1, 2] S1
    (shapeCast S1x128x2048 (absf y) shapeCasts_S128x2048_S1x128x2048) 0xFF800000#32 reduces_S1x128x2048_S1 (.inl rfl) rfl)
    shapeCasts_S1_S1x1x1) inpos_S1x1x1_p0_0_0)) shapeCasts_S1x8x128_S1x8x128

/-- Tell the device of copy `k` that this one's buffers are ready. -/
def sigStep (d : Dev nD) (k : Fin 31) : KProg F PUnit :=
  semSignalWord (fwd d k) (SemArray.scalar (sig.barrier 0 rfl) : Sems sig S_).sem 1#32

/-- Send copy `k` of the device's `x` rows. -/
def xStep (x : Memref sig .tc .vmem S4096x128 .f32) (xg : Memref sig .tc .vmem S128x4096 .f32) (ss rs : DmaSems sig S31)
    (d : Dev nD) (k : Fin 31) : KProg F PUnit :=
  Prog.lift (.enqueueDma (xRows x d k) (.remote (Dev.tc (fwd d k)) (xCols xg d) (.dma (sem31 ss k))) (.dma (sem31 rs k))
    (View.wordExact_bits rfl) (View.wordExact_bits rfl) ⟨⟨rfl, Or.inl rfl⟩, trivial⟩)

/-- Wait for copy `k` to have gone, and for the one that arrives under the same number. -/
def xWait (x : Memref sig .tc .vmem S4096x128 .f32) (xg : Memref sig .tc .vmem S128x4096 .f32) (ss rs : DmaSems sig S31)
    (d : Dev nD) (k : Fin 31) : KProg F PUnit :=
  Prog.lift (.waitDma2 (sem31 ss k) (xCols xg d) (xRows x d k) (View.wordExact_bits rfl) (View.wordExact_bits rfl)) >>= fun _ =>
  Prog.lift (.waitDma2 (sem31 rs k) (xRows x d k) (xCols xg d) (View.wordExact_bits rfl) (View.wordExact_bits rfl))

/-- Start fetching chunk `j` of the weights. -/
def wStep (w : Memref sig .tc .hbm S4096x2048 .f32) (wb : Memref sig .tc .vmem S2x512x2048 .f32) (ws : DmaSems sig S2) (j : Fin 8) : KProg F PUnit :=
  Prog.lift (.enqueueDma (wRows w j) (.here (wSlot wb (slotOf j))) (.dma (sem2 ws (slotOf j))) (View.wordExact_bits rfl)
    ((View.wordExact_bits rfl).reshape _ _) ⟨Or.inl rfl, trivial⟩)

/-- Wait for chunk `j` of the weights, and add its product to the sum. -/
def wUse (w : Memref sig .tc .hbm S4096x2048 .f32) (xg : Memref sig .tc .vmem S128x4096 .f32) (wb : Memref sig .tc .vmem S2x512x2048 .f32)
    (ws : DmaSems sig S2) (j : Fin 8) (acc : FVec F S128x2048 .f32) : KProg F (FVec F S128x2048 .f32) :=
  Prog.lift (.waitDma2 (sem2 ws (slotOf j)) (wRows w j) (wSlot wb (slotOf j)) (View.wordExact_bits rfl) ((View.wordExact_bits rfl).reshape _ _)) >>= fun _ =>
  Prog.lift (.load xg (Rect.unit (s := S128x4096) ![0, 512 * j.val] S128x512.size (inbC j)).toLoadRect (View.loadsAt_vmem h_S128x512)) >>= fun xc =>
  Prog.lift (.load wb (Rect.unit (s := S2x512x2048) ![(slotOf j).val, 0, 0] S1x512x2048.size (inbW (slotOf j))).toLoadRect
    (View.loadsAt_vmem h_S1x512x2048)) >>= fun wc =>
  pure (mac acc xc wc)

/-- Send copy `k` of the device's local maximum. -/
def aStep (am : Memref sig .tc .vmem S32x8x128 .f32) (ss rs : DmaSems sig S31) (d : Dev nD) (k : Fin 31) : KProg F PUnit :=
  Prog.lift (.enqueueDma (aRow am d) (.remote (Dev.tc (fwd d k)) (aRow am d) (.dma (sem31 ss k))) (.dma (sem31 rs k))
    (View.wordExact_bits rfl) (View.wordExact_bits rfl) ⟨⟨rfl, Or.inl rfl⟩, trivial⟩)

/-- Wait for copy `k` of the maximum to have gone, and for the one that arrives under the same number. -/
def aWait (am : Memref sig .tc .vmem S32x8x128 .f32) (ss rs : DmaSems sig S31) (d : Dev nD) (k : Fin 31) : KProg F PUnit :=
  Prog.lift (.waitDma2 (sem31 ss k) (aRow am d) (aRow am d) (View.wordExact_bits rfl) (View.wordExact_bits rfl)) >>= fun _ =>
  Prog.lift (.waitDma2 (sem31 rs k) (aRow am d) (aRow am d) (View.wordExact_bits rfl) (View.wordExact_bits rfl))

/-- Copy the device's own block of `x` into place. -/
def ownStep (x : Memref sig .tc .vmem S4096x128 .f32) (xg : Memref sig .tc .vmem S128x4096 .f32) (d : Dev nD) : KProg F PUnit :=
  Prog.lift (.load x (Rect.unit (s := S4096x128) (k0_off1 d) S128x128.size (k0_off1_inb d)).toLoadRect (View.loadsAt_vmem h_S128x128)) >>= fun v =>
  Prog.lift (.load xg (Rect.unit (s := S128x4096) (k0_off2 d) S128x128.size (k0_off2_inb d)).toLoadRect (View.loadsAt_vmem h_S128x128)) >>= fun _ =>
  Prog.lift (.store xg (Rect.unit (s := S128x4096) (k0_off2 d) S128x128.size (k0_off2_inb d)) (k0_pay2 v) Finset.univ
    (View.stores_vmem_bits_univ h_S128x128 rfl) (.inl rfl))

/-- Write the local maximum into the device's row of the table. -/
def maxStep (am : Memref sig .tc .vmem S32x8x128 .f32) (d : Dev nD) (y : FVec F S128x2048 .f32) : KProg F PUnit :=
  Prog.lift (.load am (Rect.unit (s := S32x8x128) (k0_off5 d) S1x8x128.size (k0_off5_inb d)).toLoadRect (View.loadsAt_vmem h_S1x8x128)) >>= fun _ =>
  Prog.lift (.store am (Rect.unit (s := S32x8x128) (k0_off5 d) S1x8x128.size (k0_off5_inb d)) (amaxOf y) Finset.univ
    (View.stores_vmem_bits_univ h_S1x8x128 rfl) (.inl rfl))

/-- Read the whole table of maxima and write the quantised and dequantised product. -/
def outStep (out : Memref sig .tc .vmem S128x2048 .f32) (am : Memref sig .tc .vmem S32x8x128 .f32) (y : FVec F S128x2048 .f32) : KProg F PUnit :=
  Prog.lift (.load am (Rect.unit (s := S32x8x128) ![0, 0, 0] S32x8x128.size inb_S32x8x128_S32x8x128_0_0_0).toLoadRect (View.loadsAt_vmem h_S32x8x128)) >>= fun a =>
  Prog.lift (.load out (Rect.unit (s := S128x2048) ![0, 0] S128x2048.size inb_S128x2048_S128x2048_0_0).toLoadRect (View.loadsAt_vmem h_S128x2048)) >>= fun _ =>
  Prog.lift (.store out (Rect.unit (s := S128x2048) ![0, 0] S128x2048.size inb_S128x2048_S128x2048_0_0) (k0_pay1 y a) Finset.univ
    (View.stores_vmem_bits_univ h_S128x2048 rfl) (.inl rfl))

/-- The body as loops. -/
def loopBody (arg0 : Memref sig .tc .vmem S4096x128 .f32) (arg1 : Memref sig .tc .hbm S4096x2048 .f32) (arg2 : Memref sig .tc .vmem S128x2048 .f32)
    (arg3 : Memref sig .tc .vmem S128x4096 .f32) (arg4 : Memref sig .tc .vmem S2x512x2048 .f32) (arg5 : Memref sig .tc .vmem S32x8x128 .f32)
    (arg6 arg7 arg8 arg9 : DmaSems sig S31) (arg10 : DmaSems sig S2) : KProg F PUnit :=
  Prog.lift .deviceId >>= fun (d : Dev nD) =>
  loop 31 (fun k _ => sigStep d k) ⟨⟩ >>= fun _ =>
  semWaitWord (SemArray.scalar (sig.barrier 0 rfl) : Sems sig S_).sem 31#32 >>= fun _ =>
  ownStep arg0 arg3 d >>= fun _ =>
  loop 31 (fun k _ => xStep arg0 arg3 arg6 arg7 d k) ⟨⟩ >>= fun _ =>
  wStep arg1 arg4 arg10 0 >>= fun _ =>
  loop 31 (fun k _ => xWait arg0 arg3 arg6 arg7 d k) ⟨⟩ >>= fun _ =>
  loop 7 (fun j acc => wStep arg1 arg4 arg10 j.succ >>= fun _ => wUse arg1 arg3 arg4 arg10 j.castSucc acc) (k0_pay3 (F := F)) >>= fun acc =>
  wUse arg1 arg3 arg4 arg10 7 acc >>= fun y =>
  maxStep arg5 d y >>= fun _ =>
  loop 31 (fun k _ => aStep arg5 arg8 arg9 d k) ⟨⟩ >>= fun _ =>
  loop 31 (fun k _ => aWait arg5 arg8 arg9 d k) ⟨⟩ >>= fun _ =>
  outStep arg2 arg5 y

/-- Two programs that start with the same operation and go on alike are the same. -/
theorem op_congr.{v} {Ef : Type → Type v} {A B : Type} {e : Ef B} {k k' : B → Prog Ef A} (h : ∀ x, k x = k' x) :
    Prog.op e k = Prog.op e k' := congrArg _ (funext h)

set_option maxRecDepth 200000 in
set_option maxHeartbeats 0 in
/-- The printed body is the body as loops. -/
theorem body_eq (arg0 : Memref sig .tc .vmem S4096x128 .f32) (h0) (arg1 : Memref sig .tc .hbm S4096x2048 .f32) (h1) (arg2 : Memref sig .tc .vmem S128x2048 .f32) (h2)
    (arg3 : Memref sig .tc .vmem S128x4096 .f32) (h3) (arg4 : Memref sig .tc .vmem S2x512x2048 .f32) (h4) (arg5 : Memref sig .tc .vmem S32x8x128 .f32) (h5)
    (arg6 arg7 arg8 arg9 : DmaSems sig S31) (arg10 : DmaSems sig S2) :
    cc0_body (F := F) arg0 h0 arg1 h1 arg2 h2 arg3 h3 arg4 h4 arg5 h5 arg6 arg7 arg8 arg9 arg10
      = loopBody arg0 arg1 arg2 arg3 arg4 arg5 arg6 arg7 arg8 arg9 arg10 := by
  rw [cc0_body_eq_skeleton]
  repeat refine op_congr fun _ => ?_
  rfl

end Cert.KernelIdeal.Gen

end
-- ==== Proof.Protocol.lean ====
module

public import proofs.«01_k».proof.Proof.Loops
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Rounds
public import Idealize.ShloMosaic.Lib.Tactic

/-! # The protocol: buffers, contents, semaphores and what passes through them

Every device talks to every other one. Device `c` names the others by `k : Fin 31`: `fwd c k` is `k + 1`
places further round. Seen from `fwd c k`, device `c` is number `k.rev`.

* The entry barrier. Device `c` tells each `fwd c k` that it is ready; with the signal it hands over the
  columns of its gathered `x`, and the row of its table of maxima, that the other device is going to write.
  Having waited for 31 signals a device holds, on every other device, the places it writes.
* The exchange of `x`. Copy `k` sends the rows of block `fwd c k` to that device's columns `c`. Send semaphore
  `k` gives the rows back, receive semaphore `k` gives the columns written by the device whose copy `k` comes here.
* The weights. Chunk `j` is fetched into slot `j % 2`; the slot's semaphore runs through four rounds.
* The exchange of the maxima, like that of `x`; the same row goes to all, so each copy takes a share of it. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

theorem fwd_val (c : Dev nD) (k : Fin 31) : (fwd c k).val = (c.val + k.val + 1) % 32 := hop_eq c k

theorem fwd_rev (c : Dev nD) (k : Fin 31) : fwd (fwd c k) k.rev = c := by
  apply Fin.ext
  rw [fwd_val, fwd_val, Fin.val_rev]
  have h : c.val < 32 := c.isLt
  have h' := k.isLt
  omega

theorem fwd_rev' (c : Dev nD) (k : Fin 31) : fwd (fwd c k.rev) k = c := by
  conv_lhs => rw [← Fin.rev_rev k]
  rw [Fin.rev_rev k.rev]; exact fwd_rev c k.rev

theorem fwd_ne (c : Dev nD) (k : Fin 31) : fwd c k ≠ c := by
  intro h
  have h := congrArg Fin.val h
  rw [fwd_val] at h
  have h' : c.val < 32 := c.isLt
  have h'' := k.isLt
  omega

theorem fwd_injective (c : Dev nD) : Function.Injective (fwd c) := by
  intro k k' h
  have h := congrArg Fin.val h
  rw [fwd_val, fwd_val] at h
  have h' : c.val < 32 := c.isLt
  have := k.isLt; have := k'.isLt
  apply Fin.ext
  omega

theorem eq_or_fwd (c d : Dev nD) : d = c ∨ ∃ k, d = fwd c k := by
  by_cases h : d = c
  · exact .inl h
  · refine .inr ⟨⟨(d.val + 31 - c.val) % 32, ?_⟩, Fin.ext ?_⟩
    · have h1 : c.val < 32 := c.isLt
      have h2 : d.val < 32 := d.isLt
      have h3 : d.val ≠ c.val := fun e => h (Fin.ext e)
      omega
    · rw [fwd_val]
      have h1 : c.val < 32 := c.isLt
      have h2 : d.val < 32 := d.isLt
      show d.val = (c.val + (d.val + 31 - c.val) % 32 + 1) % 32
      omega

/-- For each copy's number, the devices correspond to where that copy goes. -/
def fwdEquiv (k : Fin 31) : Dev nD ≃ Dev nD :=
  ⟨fun c => fwd c k, fun c => fwd c k.rev, fun c => fwd_rev c k, fun c => fwd_rev' c k⟩

/-! ## Buffers and their parts -/

abbrev xM : Memref sig .tc .vmem S4096x128 .f32 := Memref.whole cc0_stg0_0
abbrev wM : Memref sig .tc .hbm S4096x2048 .f32 := Memref.whole main_arg1
abbrev oM : Memref sig .tc .vmem S128x2048 .f32 := Memref.whole cc0_stg1_0
abbrev gM : Memref sig .tc .vmem S128x4096 .f32 := Memref.whole cc0_scratch0
abbrev bM : Memref sig .tc .vmem S2x512x2048 .f32 := Memref.whole cc0_scratch1
abbrev aM : Memref sig .tc .vmem S32x8x128 .f32 := Memref.whole cc0_scratch2

theorem inbX (s : Dev nD) : ∀ a, (![128 * s.val, 0] : Fin 2 → Nat) a + S128x128.size a ≤ S4096x128.size a := by
  revert s; decide
theorem inbG (s : Dev nD) : ∀ a, (![0, 128 * s.val] : Fin 2 → Nat) a + S128x128.size a ≤ S128x4096.size a := by
  revert s; decide
theorem inbA (s : Dev nD) : ∀ a, (![s.val, 0, 0] : Fin 3 → Nat) a + S1x8x128.size a ≤ S32x8x128.size a := by
  revert s; decide

abbrev xRect (s : Dev nD) : Rect S4096x128 := Rect.unit (s := S4096x128) ![128 * s.val, 0] S128x128.size (inbX s)
abbrev gRect (s : Dev nD) : Rect S128x4096 := Rect.unit (s := S128x4096) ![0, 128 * s.val] S128x128.size (inbG s)
abbrev aRect (s : Dev nD) : Rect S32x8x128 := Rect.unit (s := S32x8x128) ![s.val, 0, 0] S1x8x128.size (inbA s)
abbrev bRect (s : Fin 2) : Rect S2x512x2048 := Rect.unit (s := S2x512x2048) ![s.val, 0, 0] S1x512x2048.size (inbW s)
abbrev wRect (j : Fin 8) : Rect S4096x2048 := Rect.unit (s := S4096x2048) ![512 * j.val, 0] S512x2048.size (inbR j)
abbrev cRect (j : Fin 8) : Rect S128x4096 := Rect.unit (s := S128x4096) ![0, 512 * j.val] S128x512.size (inbC j)

/-- The rows of `x` that belong to device `s`'s part of the product. -/
abbrev xBlk (s : Dev nD) : Memref sig .tc .vmem S128x128 .f32 := xM.slice (xRect s) (fun _ => rfl)
/-- The columns of the gathered `x` that device `s` writes. -/
abbrev gBlk (s : Dev nD) : Memref sig .tc .vmem S128x128 .f32 := gM.slice (gRect s) (fun _ => rfl)
/-- The row of the table of maxima that device `s` writes. -/
abbrev aBlk (s : Dev nD) : Memref sig .tc .vmem S1x8x128 .f32 := aM.slice (aRect s) (fun _ => rfl)

/-- A unit rectangle is determined by its offsets. -/
theorem slice_unit_congr {sp : Space} {s : Shape} {e : EltTy} (m : Memref sig .tc sp s e) {off off' size : Fin s.rank → Nat}
    (h : off = off') (inb : ∀ a, off a + size a ≤ s.size a) (inb' : ∀ a, off' a + size a ≤ s.size a)
    (hr : ∀ a, (Rect.unit off size inb).stride a = 1) (hr' : ∀ a, (Rect.unit off' size inb').stride a = 1) :
    m.slice (Rect.unit off size inb) hr = m.slice (Rect.unit off' size inb') hr' := by
  subst h; rfl

theorem xRows_eq (d : Dev nD) (k : Fin 31) : xRows xM d k = xBlk (fwd d k) :=
  slice_unit_congr (s := S4096x128) xM ((k0_off4_eq d k).trans (by rw [fwd_val])) _ _ _ _
theorem xCols_eq (d : Dev nD) : xCols gM d = gBlk d := slice_unit_congr (s := S128x4096) gM (k0_off3_eq d) _ _ _ _
theorem aRow_eq (d : Dev nD) : aRow aM d = aBlk d := slice_unit_congr (s := S32x8x128) aM (k0_off6_eq d) _ _ _ _

/-! ## Semaphores -/

/-- The runtime's barrier semaphore. -/
abbrev barS : Sem sig := (SemArray.scalar (sig.barrier 0 rfl) : Sems sig S_).sem

/-- The four arrays of 31: `x` gone, `x` come, maximum gone, maximum come. -/
abbrev chArr : Fin 4 → DmaSems sig S31
  | 0 => cc0_scratch3
  | 1 => cc0_scratch4
  | 2 => cc0_scratch5
  | 3 => cc0_scratch6

/-- The kernel's own semaphores: an array's number and a copy's, or a slot of the weight buffer. -/
abbrev Own : Type := (Fin 4 × Fin 31) ⊕ Fin 2
/-- All the protocol's semaphores: the barrier and the kernel's own. -/
abbrev Cell : Type := Unit ⊕ Own

abbrev osem : Own → SemLoc sig
  | .inl ik => .dma (sem31 (chArr ik.1) ik.2)
  | .inr s => .dma (sem2 cc0_scratch7 s)
abbrev csem : Cell → SemLoc sig
  | .inl _ => .reg barS
  | .inr o => osem o

abbrev bar : Cell := .inl ()
abbrev ch (i : Fin 4) (k : Fin 31) : Cell := .inr (.inl (i, k))
abbrev wd (s : Fin 2) : Cell := .inr (.inr s)

abbrev kcell (ck : Dev nD × Cell) : GSem nD τ sig := ((ck.1 : Thread nD τ), csem ck.2)
abbrev cl (c : Dev nD) (x : Cell) : GSem nD τ sig := kcell (c, x)

/-- Which of the protocol's semaphores a semaphore is. -/
def decode : SemLoc sig → Option Cell
  | .reg _ => some bar
  | .dma q => let v := Fin.val q
    if v < 2 then none
    else if h : v < 126 then some (ch ⟨(v - 2) / 31, by omega⟩ ⟨(v - 2) % 31, Nat.mod_lt _ (by decide)⟩)
    else some (wd ⟨(v - 126) % 2, Nat.mod_lt _ (by decide)⟩)

theorem decode_own (o : Own) : decode (osem o) = some (.inr o) := by
  revert o; decide +kernel
theorem decode_csem (x : Cell) : decode (csem x) = some x := by
  rcases x with ⟨⟩ | o
  · rfl
  · exact decode_own o

theorem csem_injective : Function.Injective csem := fun x y h => by
  have := congrArg decode h
  rw [decode_csem, decode_csem] at this
  exact Option.some.inj this

theorem kcell_injective : Function.Injective kcell := fun ⟨c, x⟩ ⟨d, y⟩ h => by
  have h1 : c = d := congrArg (fun g : GSem nD τ sig => g.1.1) h
  have h2 : csem x = csem y := congrArg Prod.snd h
  rw [h1, csem_injective h2]

/-- What one copy of a block of `x`, a row of maxima, a chunk of the weights adds to a semaphore. -/
abbrev NX : ℕ := (gBlk 0).view.dmaCredit
abbrev NA : ℕ := (aBlk 0).view.dmaCredit
abbrev NW : ℕ := (wSlot bM 0).view.dmaCredit
theorem NX_pos : 0 < NX := View.dmaCredit_pos _ (by decide)
theorem NA_pos : 0 < NA := View.dmaCredit_pos _ (by decide)
theorem NW_pos : 0 < NW := View.dmaCredit_pos _ (by decide)

theorem credit_xBlk (s : Dev nD) : (xBlk s).view.dmaCredit = NX := rfl
theorem credit_gBlk (s : Dev nD) : (gBlk s).view.dmaCredit = NX := rfl
theorem credit_aBlk (s : Dev nD) : (aBlk s).view.dmaCredit = NA := rfl
theorem credit_wSlot (s : Fin 2) : (wSlot bM s).view.dmaCredit = NW := rfl

/-! ## Contents -/

variable (m : (ℓ : Loc nD τ sig) → Buf (Elt F) ℓ) (ρ : Dev nD → PrngReg)

/-- The memory at launch: arbitrary contents, every semaphore zero, arbitrary generator registers. -/
def s₀ : MemSt nD τ sig (Elt F) := ⟨m, fun _ => 0, ρ⟩

/-- Device `c`'s columns of `x`, as staged. -/
def xs (c : Dev nD) : (cc0_stg0_0 : Ref sig .tc).ty.Contents (Elt F) :=
  (win0_0.blk (0 : Fin 1)).view.read (Elt F) (m ((c : Thread nD τ).loc main_arg0))

/-- Device `c`'s weights. -/
def ws (c : Dev nD) : (main_arg1 : Ref sig .tc).ty.Contents (Elt F) := m ((c : Thread nD τ).loc main_arg1)

/-- Device `c`'s gathered `x`: its rows of every device's columns. -/
def XG (c : Dev nD) : (cc0_scratch0 : Ref sig .tc).ty.Contents (Elt F) := fun (i : S128x4096.Idx) =>
  xs m (⟨(i 1).val / 128, by have h : (i 1).val < 4096 := (i 1).isLt; show _ < 32; omega⟩ : Dev nD)
    (Shape.pair (d := ![4096, 128])
      ⟨128 * c.val + (i 0).val, by have h : (i 0).val < 128 := (i 0).isLt; have h' : c.val < 32 := c.isLt; show _ < 4096; omega⟩
      ⟨(i 1).val % 128, Nat.mod_lt _ (by decide)⟩)

/-- A slot of the weight buffer once chunk `j` is in it. -/
def WB (c : Dev nD) (j : Fin 8) : (cc0_scratch1 : Ref sig .tc).ty.Contents (Elt F) := fun (i : S2x512x2048.Idx) =>
  ws m c (Shape.pair (d := ![4096, 2048])
    ⟨512 * j.val + (i 1).val, by have h : (i 1).val < 512 := (i 1).isLt; have h' := j.isLt; show _ < 4096; omega⟩ (i 2))

/-- What the loads of step `j` of the product give. -/
def xc (c : Dev nD) (j : Fin 8) : Vec F S128x512 .f32 := gM.view.readAt (Elt F) (cRect j).toLoadRect (XG m c)
def wc (c : Dev nD) (j : Fin 8) : Vec F S1x512x2048 .f32 := bM.view.readAt (Elt F) (bRect (slotOf j)).toLoadRect (WB m c j)

/-- The sum of the products of the first `n` chunks. -/
def acc (c : Dev nD) : ℕ → FVec F S128x2048 .f32
  | 0 => k0_pay3
  | n + 1 => if h : n < 8 then mac (acc c n) (xc m c ⟨n, h⟩) (wc m c ⟨n, h⟩) else acc c n

/-- Device `c`'s rows of the product. -/
def yAt (c : Dev nD) : FVec F S128x2048 .f32 := acc m c 8

/-- The table of maxima, the same on every device in the end. -/
def AM : (cc0_scratch2 : Ref sig .tc).ty.Contents (Elt F) := fun (i : S32x8x128.Idx) =>
  amaxOf (yAt m (i 0 : Fin 32)) (fun | ⟨0, _⟩ => ⟨0, Nat.one_pos⟩ | ⟨1, _⟩ => i 1 | ⟨2, _⟩ => i 2)

/-- The kernel's result on device `c`. -/
def outAt (c : Dev nD) : (cc0_stg1_0 : Ref sig .tc).ty.Contents (Elt F) :=
  k0_pay1 (yAt m c) (aM.view.readAt (Elt F) (Rect.unit (s := S32x8x128) ![0, 0, 0] S32x8x128.size inb_S32x8x128_S32x8x128_0_0_0).toLoadRect (AM m))

end Cert.KernelIdeal.A2A

end
-- ==== Proof.Schedule.lean ====
module

public import proofs.«01_k».proof.Proof.Protocol

/-! # What each semaphore passes on, and in which order they may be waited for -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, whose duties are named by `Fin 31` -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The pieces that move -/

/-- Block `s` of device `c`'s columns of `x`. -/
def pX (c s : Dev nD) : sProp 𝕄 := (xBlk s).view.loc (c : Thread nD τ) ↦[(xBlk s).view.set]{fullShare} xs m c
/-- Columns `s` of device `c`'s gathered `x`. -/
def pG (c s : Dev nD) (f : (cc0_scratch0 : Ref sig .tc).ty.Contents (Elt F)) : sProp 𝕄 :=
  (gBlk s).view.loc (c : Thread nD τ) ↦[(gBlk s).view.set]{fullShare} f
/-- A share of row `s` of device `c`'s table of maxima. -/
def pA (c s : Dev nD) (q : PosShare TreeShare) (f : (cc0_scratch2 : Ref sig .tc).ty.Contents (Elt F)) : sProp 𝕄 :=
  (aBlk s).view.loc (c : Thread nD τ) ↦[(aBlk s).view.set]{q} f
/-- Chunk `j` of device `c`'s weights. -/
def pW (c : Dev nD) (j : Fin 8) : sProp 𝕄 := (wRows wM j).view.loc (c : Thread nD τ) ↦[(wRows wM j).view.set]{fullShare} ws m c
/-- A slot of device `c`'s weight buffer. -/
def pB (c : Dev nD) (s : Fin 2) (f : (cc0_scratch1 : Ref sig .tc).ty.Contents (Elt F)) : sProp 𝕄 :=
  (wSlot bM s).view.loc (c : Thread nD τ) ↦[(wSlot bM s).view.set]{fullShare} f

instance pX_storable (c s : Dev nD) : BI.Storable (upEmb : UEmb _ 𝕄) (pX (F := F) m c s) := by unfold pX; infer_instance
instance pG_storable (c s : Dev nD) (f) : BI.Storable (upEmb : UEmb _ 𝕄) (pG (F := F) c s f) := by unfold pG; infer_instance
instance pA_storable (c s : Dev nD) (q f) : BI.Storable (upEmb : UEmb _ 𝕄) (pA (F := F) c s q f) := by unfold pA; infer_instance
instance pW_storable (c : Dev nD) (j) : BI.Storable (upEmb : UEmb _ 𝕄) (pW (F := F) m c j) := by unfold pW; infer_instance
instance pB_storable (c : Dev nD) (s f) : BI.Storable (upEmb : UEmb _ 𝕄) (pB (F := F) c s f) := by unfold pB; infer_instance

/-- The share of its row of maxima that copy `k` takes. -/
def shr (k : Fin 31) : PosShare TreeShare := ShareLeaves.leaf 5 fullShare k.succ
/-- The share a device keeps. -/
def shr₀ : PosShare TreeShare := ShareLeaves.leaf 5 fullShare 0

/-- The places on device `p` that device `c` writes. -/
def lend (p c : Dev nD) : sProp 𝕄 := iprop((∃ f, pG p c f) ∗ (∃ f, pA p c fullShare f))
instance lend_storable (p c : Dev nD) : BI.Storable (upEmb : UEmb _ 𝕄) (lend (F := F) p c) := by unfold lend; infer_instance

/-- The chunk that round `r` of slot `s` carries. -/
def chunk (s : Fin 2) (r : ℕ) : Fin 8 := ⟨(2 * r + s.val) % 8, Nat.mod_lt _ (by decide)⟩

/-- What duty `d` of round `r` of a semaphore of device `c` hands over. -/
def pay (c : Dev nD) (x : Cell) (r : ℕ) (d : Fin 31) : sProp 𝕄 :=
  match x with
  | .inl _ => lend (fwd c d.rev) c
  | .inr (.inl (0, k)) => pX m c (fwd c k)
  | .inr (.inl (1, k)) => pG c (fwd c k.rev) (XG m c)
  | .inr (.inl (2, k)) => pA c c (shr k) (AM m)
  | .inr (.inl (3, k)) => pA c (fwd c k.rev) fullShare (AM m)
  | .inr (.inr s) => iprop(pB c s (WB m c (chunk s r)) ∗ pW m c (chunk s r))

instance pay_storable (c : Dev nD) (x : Cell) (r : ℕ) (d : Fin 31) : BI.Storable (upEmb : UEmb _ 𝕄) (pay (F := F) m c x r d) := by
  unfold pay; split <;> infer_instance

/-- The amounts, for given sizes of the three kinds of copy. -/
def amtOf (nx na nw : ℕ) : Cell → ℕ
  | .inl _ => 1
  | .inr (.inl (0, _)) => nx
  | .inr (.inl (1, _)) => nx
  | .inr (.inl (2, _)) => na
  | .inr (.inl (3, _)) => na
  | .inr (.inr _) => nw

theorem amtOf_wd (nx na nw : ℕ) (s : Fin 2) : amtOf nx na nw (wd s) = nw := rfl
theorem amtOf_pos (nx na nw : ℕ) (hx : 0 < nx) (ha : 0 < na) (hw : 0 < nw) (x : Cell) : 0 < amtOf nx na nw x := by
  unfold amtOf; split
  exacts [Nat.one_pos, hx, hx, ha, ha, hw]

def amt (x : Cell) : ℕ := amtOf NX NA NW x

theorem amt_wd (s : Fin 2) : amt (wd s) = NW := amtOf_wd NX NA NW s
theorem amt_pos (x : Cell) : 0 < amt x := amtOf_pos NX NA NW NX_pos NA_pos NW_pos x

def duts : Cell → ℕ → Finset (Fin 31)
  | .inl _, r => if r = 0 then Finset.univ else ∅
  | .inr (.inl _), r => if r = 0 then {0} else ∅
  | .inr (.inr _), r => if r < 4 then {0} else ∅

/-- How many rounds a semaphore goes through. -/
def rnds : Cell → ℕ
  | .inr (.inr _) => 4
  | _ => 1

theorem duts_later (x : Cell) (r : ℕ) (h : rnds x ≤ r) : duts x r = ∅ := by
  rcases x with ⟨⟩ | ik | s <;> simp only [rnds] at h <;> simp only [duts] <;> exact if_neg (by omega)

/-- The schedule. -/
def Rd : Rounds.Schedule (GSem nD τ sig) (Fin 31) 𝕄 where
  duties g r := match decode g.2 with
    | some x => if g.1.2 = .tc then duts x r else ∅
    | none => ∅
  unitless _ := False
  amount g _ _ := match decode g.2 with
    | some x => amt x
    | none => 1
  payload g r d := match decode g.2 with
    | some x => pay m g.1.1 x r d
    | none => iprop(emp)
  amount_pos g _ _ _ := by
    split
    · exact amt_pos _
    · exact Nat.one_pos

instance Rd_payload_storable (g : GSem nD τ sig) (r : ℕ) (d : Fin 31) :
    BI.Storable (upEmb : UEmb _ 𝕄) ((Rd (F := F) m).payload g r d) := by
  show BI.Storable upEmb (match decode g.2 with | some x => pay m g.1.1 x r d | none => iprop(emp))
  split <;> infer_instance

theorem Rd_duties (c : Dev nD) (x : Cell) (r : ℕ) : (Rd (F := F) m).duties (cl c x) r = duts x r := by
  dsimp only [Rd]; rw [decode_csem]; exact if_pos rfl
theorem Rd_amount (c : Dev nD) (x : Cell) (r : ℕ) (d : Fin 31) : (Rd (F := F) m).amount (cl c x) r d = amt x := by
  dsimp only [Rd]; rw [decode_csem]
theorem Rd_payload (c : Dev nD) (x : Cell) (r : ℕ) (d : Fin 31) : (Rd (F := F) m).payload (cl c x) r d = pay m c x r d := by
  dsimp only [Rd]; rw [decode_csem]
theorem Rd_later (c : Dev nD) (x : Cell) (r : ℕ) (h : rnds x ≤ r) : (Rd (F := F) m).duties (cl c x) r = ∅ := by
  rw [Rd_duties, duts_later x r h]
theorem Rd_expect (c : Dev nD) (x : Cell) (r : ℕ) : (Rd (F := F) m).expect (cl c x) r = (duts x r).card * amt x := by
  unfold Schedule.expect Schedule.amountOf
  rw [Rd_duties, Finset.sum_congr rfl fun d _ => Rd_amount m c x r d, Finset.sum_const, smul_eq_mul]
/-- What a wait that takes a whole round gives. -/
theorem Rd_rest (c : Dev nD) (x : Cell) (r : ℕ) :
    bigSep ((Rd (F := F) m).duties (cl c x) r \ ∅) (fun d => (Rd (F := F) m).payload (cl c x) r d) = bigSep (duts x r) (pay m c x r) := by
  rw [Finset.sdiff_empty, Rd_duties]
  exact bigSep_congr fun d _ => Rd_payload m c x r d

/-! ## What each device owes at launch; the levels -/

/-- The last `31 - k` of 31 debts. -/
def dueFrom (f : Fin 31 → CellTallies nD τ sig Unit) (k : ℕ) : CellTallies nD τ sig Unit := ∑ i with k ≤ i.val, f i

theorem dueFrom_zero (f : Fin 31 → CellTallies nD τ sig Unit) : dueFrom f 0 = ∑ i, f i := by
  unfold dueFrom; rw [Finset.filter_true_of_mem fun i _ => Nat.zero_le _]
theorem dueFrom_step (f : Fin 31 → CellTallies nD τ sig Unit) (k : Fin 31) : dueFrom f k.val = dueFrom f (k.val + 1) + f k := by
  unfold dueFrom
  rw [show (Finset.univ.filter fun i : Fin 31 => k.val ≤ i.val) = insert k (Finset.univ.filter fun i : Fin 31 => k.val + 1 ≤ i.val) by
    ext i; simp only [Finset.mem_filter, Finset.mem_univ, true_and, Finset.mem_insert, Fin.ext_iff]; omega,
    Finset.sum_insert (by simp), add_comm]
theorem dueFrom_end (f : Fin 31 → CellTallies nD τ sig Unit) : dueFrom f 31 = 0 := by
  unfold dueFrom; rw [Finset.filter_false_of_mem fun i _ => by have := i.isLt; omega]; exact Finset.sum_empty

/-- One unit to every other device's barrier; -/
def owB (c : Dev nD) (k : Fin 31) : CellTallies nD τ sig Unit := tallyAt (cl (fwd c k) bar) () 1
/-- a block of `x` to every other device; -/
def owX (c : Dev nD) (k : Fin 31) : CellTallies nD τ sig Unit := tallyAt (cl (fwd c k) (ch 1 k)) () NX
/-- a row of maxima to every other device. -/
def owA (c : Dev nD) (k : Fin 31) : CellTallies nD τ sig Unit := tallyAt (cl (fwd c k) (ch 3 k)) () NA

/-- What is owed before barrier signal `k`, before copy `k` of `x`, before copy `k` of the maximum. -/
def OB (c : Dev nD) (k : ℕ) : CellTallies nD τ sig Unit := dueFrom (owA c) 0 + dueFrom (owX c) 0 + dueFrom (owB c) k
def OX (c : Dev nD) (k : ℕ) : CellTallies nD τ sig Unit := dueFrom (owA c) 0 + dueFrom (owX c) k
def OA (c : Dev nD) (k : ℕ) : CellTallies nD τ sig Unit := dueFrom (owA c) k

def L (g : GSem nD τ sig) : Finset Unit := if g.1.2 = .tc then {()} else ∅

/-- The barrier is waited for before `x`, and `x` before the maxima; whatever a device waits for on its own comes first. -/
def lvl : Cell → ℕ
  | .inl _ => 1
  | .inr (.inl (1, _)) => 2
  | .inr (.inl (3, _)) => 3
  | _ => 0
def lv (g : GSem nD τ sig) (_ : Unit) : ℕ := match decode g.2 with
  | some x => lvl x
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cl (c : Dev nD) (x : Cell) : lv (cl c x) () = lvl x := by unfold lv; rw [decode_csem]

/-- Every cell owed on is some device's, at a level above `n`. -/
def Above (n : ℕ) (O : CellTallies nD τ sig Unit) : Prop := ∀ g u, 0 < O g u → ∃ c x, g = cl c x ∧ n < lvl x

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (x : Cell) (k : ℕ) (h : n < lvl x) : Above n (tallyAt (cl c x) () k) := fun g u hg => by
  rw [tallyAt_apply] at hg
  by_cases h' : g = cl c x ∧ u = ()
  · exact ⟨c, x, h'.1, h⟩
  · rw [if_neg h'] at hg; exact absurd hg (Nat.lt_irrefl 0)
theorem Above.due {n : ℕ} {f : Fin 31 → CellTallies nD τ sig Unit} (k : ℕ) (h : ∀ i, Above n (f i)) : Above n (dueFrom f k) := by
  unfold dueFrom
  exact Finset.sum_induction _ (Above n) (fun _ _ => Above.add) (Above.zero n) fun i _ => h i

theorem above_owB (c : Dev nD) (k : Fin 31) : Above 0 (owB c k) := Above.tally _ _ _ (show 0 < 1 by decide)
theorem above_owX (c : Dev nD) (k : Fin 31) : Above 1 (owX c k) := Above.tally _ _ _ (show 1 < 2 by decide)
theorem above_owA (c : Dev nD) (k : Fin 31) : Above 2 (owA c k) := Above.tally _ _ _ (show 2 < 3 by decide)
theorem Above.mono {n n' : ℕ} {O : CellTallies nD τ sig Unit} (h : Above n O) (hn : n' ≤ n) : Above n' O := fun g u hg => by
  obtain ⟨d, x, hd, hx⟩ := h g u hg; exact ⟨d, x, hd, by omega⟩

theorem above_OA (c : Dev nD) (k : ℕ) : Above 2 (OA c k) := Above.due k (above_owA c)
theorem above_OX (c : Dev nD) (k : ℕ) : Above 1 (OX c k) :=
  (Above.due 0 fun i => (above_owA c i).mono (by decide)).add (Above.due k (above_owX c))
theorem above_OB (c : Dev nD) (k : ℕ) : Above 0 (OB c k) :=
  ((Above.due 0 fun i => (above_owA c i).mono (by decide)).add (Above.due 0 fun i => (above_owX c i).mono (by decide))).add
    (Above.due k (above_owB c))

/-- A semaphore may be waited for when all that is owed lies above it. -/
theorem mayWait_above (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, x, rfl, -⟩ := hO g u hg; exact Finset.mem_singleton_self _)
    (fun p hp => by rw [Finset.mem_singleton.mp hp]; exact hsm)
    (fun g u hg => by obtain ⟨d, x, rfl, hx⟩ := hO g u hg; rw [lv_cl]; exact hx)

end Cert.KernelIdeal.A2A

end
-- ==== Proof.Blocks.lean ====
module

public import proofs.«01_k».proof.Proof.Schedule
public import Idealize.ShloMosaic.Lib.Ring

/-! # Buffers cut into blocks, and what the copies leave in them -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ)

/-! ## Sets -/

theorem mem_xBlk (s : Dev nD) (i : S4096x128.Idx) : i ∈ (xBlk s).view.set ↔ (i 0).val / 128 = s.val := by
  show i ∈ ((View.whole cc0_stg0_0).slice (xRect s)).set ↔ _
  rw [View.set_slice_whole, Rect.mem_set_unit]
  have h1 : (i 1).val < 128 := (i 1).isLt
  constructor
  · intro h
    have h0 : 128 * s.val ≤ (i 0).val ∧ (i 0).val < 128 * s.val + 128 := h 0
    omega
  · intro h a
    fin_cases a
    · show 128 * s.val ≤ (i 0).val ∧ (i 0).val < 128 * s.val + 128; omega
    · show 0 ≤ (i 1).val ∧ (i 1).val < 0 + 128; omega

theorem mem_gBlk (s : Dev nD) (i : S128x4096.Idx) : i ∈ (gBlk s).view.set ↔ (i 1).val / 128 = s.val := by
  show i ∈ ((View.whole cc0_scratch0).slice (gRect s)).set ↔ _
  rw [View.set_slice_whole, Rect.mem_set_unit]
  have h1 : (i 0).val < 128 := (i 0).isLt
  constructor
  · intro h
    have h0 : 128 * s.val ≤ (i 1).val ∧ (i 1).val < 128 * s.val + 128 := h 1
    omega
  · intro h a
    fin_cases a
    · show 0 ≤ (i 0).val ∧ (i 0).val < 0 + 128; omega
    · show 128 * s.val ≤ (i 1).val ∧ (i 1).val < 128 * s.val + 128; omega

theorem mem_aBlk (s : Dev nD) (i : S32x8x128.Idx) : i ∈ (aBlk s).view.set ↔ (i 0).val = s.val := by
  show i ∈ ((View.whole cc0_scratch2).slice (aRect s)).set ↔ _
  rw [View.set_slice_whole, Rect.mem_set_unit]
  have h1 : (i 1).val < 8 := (i 1).isLt
  have h2 : (i 2).val < 128 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 8; omega
    · show 0 ≤ (i 2).val ∧ (i 2).val < 0 + 128; omega

theorem set_wSlot (s : Fin 2) : (wSlot bM s).view.set = (bRect s).set :=
  (View.set_reshape _ _).trans (View.set_slice_whole cc0_scratch1 (bRect s))

theorem mem_wSlot (s : Fin 2) (i : S2x512x2048.Idx) : i ∈ (wSlot bM s).view.set ↔ (i 0).val = s.val := by
  rw [set_wSlot, Rect.mem_set_unit]
  have h1 : (i 1).val < 512 := (i 1).isLt
  have h2 : (i 2).val < 2048 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 512; omega
    · show 0 ≤ (i 2).val ∧ (i 2).val < 0 + 2048; omega

theorem mem_wRows (j : Fin 8) (i : S4096x2048.Idx) : i ∈ (wRows wM j).view.set ↔ (i 0).val / 512 = j.val := by
  show i ∈ ((View.whole main_arg1).slice (wRect j)).set ↔ _
  rw [View.set_slice_whole, Rect.mem_set_unit]
  have h1 : (i 1).val < 2048 := (i 1).isLt
  constructor
  · intro h
    have h0 : 512 * j.val ≤ (i 0).val ∧ (i 0).val < 512 * j.val + 512 := h 0
    omega
  · intro h a
    fin_cases a
    · show 512 * j.val ≤ (i 0).val ∧ (i 0).val < 512 * j.val + 512; omega
    · show 0 ≤ (i 1).val ∧ (i 1).val < 0 + 2048; omega

/-- Sets told apart by a function are disjoint, -/
theorem disjoint_of_label {I : Type} {n : ℕ} {K : Fin n → Finset I} {φ : I → ℕ} (h : ∀ s i, i ∈ K s ↔ φ i = s.val) (b b' : Fin n) (hb : b ≠ b') :
    Disjoint (K b) (K b') :=
  Finset.disjoint_left.mpr fun i hi hi' => hb (Fin.ext (((h b i).mp hi).symm.trans ((h b' i).mp hi')))
/-- and cover when every value of the function is a label. -/
theorem cover_of_label {I : Type} [Fintype I] [DecidableEq I] {n : ℕ} {K : Fin n → Finset I} {φ : I → ℕ} (h : ∀ s i, i ∈ K s ↔ φ i = s.val)
    (hφ : ∀ i, φ i < n) : Finset.univ.biUnion K = Finset.univ :=
  Finset.eq_univ_iff_forall.mpr fun i => Finset.mem_biUnion.mpr ⟨⟨φ i, hφ i⟩, Finset.mem_univ _, (h _ i).mpr rfl⟩

/-! ## Whole buffers as their blocks -/

/-- A product over the devices is the factor of `c` and the factors of all others, as `c` numbers them. -/
theorem dev_split (c : Dev nD) (Φ : Dev nD → sProp 𝕄) :
    bigSep Finset.univ Φ = iprop(Φ c ∗ bigSep Finset.univ fun k : Fin 31 => Φ (fwd c k)) := by
  rw [bigSep_univ_split c, show (Finset.univ.erase c : Finset (Dev nD)) = Finset.univ.map ⟨fwd c, fwd_injective c⟩ by
    ext d
    simp only [Finset.mem_erase, Finset.mem_univ, and_true, Finset.mem_map, true_and, Function.Embedding.coeFn_mk]
    constructor
    · intro h
      rcases eq_or_fwd c d with h' | ⟨k, hk⟩
      · exact absurd h' h
      · exact ⟨k, hk.symm⟩
    · rintro ⟨k, rfl⟩; exact fwd_ne c k, bigSep_map]
  rfl

/-- The others counted backwards. -/
theorem rev_all (Φ : Fin 31 → sProp 𝕄) : bigSep Finset.univ (fun k : Fin 31 => Φ k.rev) = bigSep Finset.univ Φ :=
  (bigSep_univ_equiv Fin.revPerm Φ).symm

theorem div_lt_32 {a : ℕ} (h : a < 4096) : a / 128 < 32 := by omega
theorem div_lt_8 {a : ℕ} (h : a < 4096) : a / 512 < 8 := by omega

abbrev xSet (c : Dev nD) (s : Dev nD) : Finset (Idx ((c : Thread nD τ).loc cc0_stg0_0)) := (xBlk s).view.set
theorem x_lab (i : S4096x128.Idx) : (i 0).val / 128 < nD := div_lt_32 (i 0).isLt
theorem x_disj (c : Dev nD) : ∀ b b' : Dev nD, b ≠ b' → Disjoint (xSet c b) (xSet c b') :=
  disjoint_of_label (n := nD) (φ := fun i : S4096x128.Idx => (i 0).val / 128) mem_xBlk
theorem x_cover (c : Dev nD) : (Finset.univ : Finset (Fin nD)).biUnion (xSet c) = Finset.univ :=
  cover_of_label (n := nD) (K := xSet c) (φ := fun i : S4096x128.Idx => (i 0).val / 128) mem_xBlk x_lab

abbrev gSet (c : Dev nD) (s : Dev nD) : Finset (Idx ((c : Thread nD τ).loc cc0_scratch0)) := (gBlk s).view.set
theorem g_lab (i : S128x4096.Idx) : (i 1).val / 128 < nD := div_lt_32 (i 1).isLt
theorem g_disj (c : Dev nD) : ∀ b b' : Dev nD, b ≠ b' → Disjoint (gSet c b) (gSet c b') :=
  disjoint_of_label (n := nD) (φ := fun i : S128x4096.Idx => (i 1).val / 128) mem_gBlk
theorem g_cover (c : Dev nD) : (Finset.univ : Finset (Fin nD)).biUnion (gSet c) = Finset.univ :=
  cover_of_label (n := nD) (K := gSet c) (φ := fun i : S128x4096.Idx => (i 1).val / 128) mem_gBlk g_lab

abbrev aSet (c : Dev nD) (s : Dev nD) : Finset (Idx ((c : Thread nD τ).loc cc0_scratch2)) := (aBlk s).view.set
theorem a_lab (i : S32x8x128.Idx) : (i 0).val < nD := (i 0).isLt
theorem a_disj (c : Dev nD) : ∀ b b' : Dev nD, b ≠ b' → Disjoint (aSet c b) (aSet c b') :=
  disjoint_of_label (n := nD) (φ := fun i : S32x8x128.Idx => (i 0).val) mem_aBlk
theorem a_cover (c : Dev nD) : (Finset.univ : Finset (Fin nD)).biUnion (aSet c) = Finset.univ :=
  cover_of_label (n := nD) (K := aSet c) (φ := fun i : S32x8x128.Idx => (i 0).val) mem_aBlk a_lab

abbrev wSet (c : Dev nD) (s : Fin 8) : Finset (Idx ((c : Thread nD τ).loc main_arg1)) := (wRows wM s).view.set
theorem w_lab (i : S4096x2048.Idx) : (i 0).val / 512 < 8 := div_lt_8 (i 0).isLt
theorem w_disj (c : Dev nD) : ∀ b b' : Fin 8, b ≠ b' → Disjoint (wSet c b) (wSet c b') :=
  disjoint_of_label (n := 8) (φ := fun i : S4096x2048.Idx => (i 0).val / 512) mem_wRows
theorem w_cover (c : Dev nD) : (Finset.univ : Finset (Fin 8)).biUnion (wSet c) = Finset.univ :=
  cover_of_label (n := 8) (K := wSet c) (φ := fun i : S4096x2048.Idx => (i 0).val / 512) mem_wRows w_lab

abbrev bSet (c : Dev nD) (s : Fin 2) : Finset (Idx ((c : Thread nD τ).loc cc0_scratch1)) := (wSlot bM s).view.set
theorem b_lab (i : S2x512x2048.Idx) : (i 0).val < 2 := (i 0).isLt
theorem b_disj (c : Dev nD) : ∀ b b' : Fin 2, b ≠ b' → Disjoint (bSet c b) (bSet c b') :=
  disjoint_of_label (n := 2) (φ := fun i : S2x512x2048.Idx => (i 0).val) mem_wSlot
theorem b_cover (c : Dev nD) : (Finset.univ : Finset (Fin 2)).biUnion (bSet c) = Finset.univ :=
  cover_of_label (n := 2) (K := bSet c) (φ := fun i : S2x512x2048.Idx => (i 0).val) mem_wSlot b_lab

theorem x_blocks (c : Dev nD) :
    (((c : Thread nD τ).loc cc0_stg0_0) ↦{fullShare} xs m c : sProp 𝕄) = iprop(pX m c c ∗ bigSep Finset.univ fun k : Fin 31 => pX m c (fwd c k)) := by
  rw [← dev_split c fun s => pX m c s]
  exact pointsTo_blocks (xSet c) (x_disj c) (x_cover c) _

theorem g_blocks (c : Dev nD) (f : (cc0_scratch0 : Ref sig .tc).ty.Contents (Elt F)) :
    (((c : Thread nD τ).loc cc0_scratch0) ↦{fullShare} f : sProp 𝕄) = iprop(pG c c f ∗ bigSep Finset.univ fun k : Fin 31 => pG c (fwd c k) f) := by
  rw [← dev_split c fun s => pG c s f]
  exact pointsTo_blocks (gSet c) (g_disj c) (g_cover c) _

theorem a_blocks (c : Dev nD) (f : (cc0_scratch2 : Ref sig .tc).ty.Contents (Elt F)) :
    (((c : Thread nD τ).loc cc0_scratch2) ↦{fullShare} f : sProp 𝕄)
      = iprop(pA c c fullShare f ∗ bigSep Finset.univ fun k : Fin 31 => pA c (fwd c k) fullShare f) := by
  rw [← dev_split c fun s => pA c s fullShare f]
  exact pointsTo_blocks (aSet c) (a_disj c) (a_cover c) _

theorem w_blocks (c : Dev nD) :
    (((c : Thread nD τ).loc main_arg1) ↦{fullShare} ws m c : sProp 𝕄) = bigSep Finset.univ fun j : Fin 8 => pW m c j :=
  pointsTo_blocks (wSet c) (w_disj c) (w_cover c) _

theorem b_blocks (c : Dev nD) (f : (cc0_scratch1 : Ref sig .tc).ty.Contents (Elt F)) :
    (((c : Thread nD τ).loc cc0_scratch1) ↦{fullShare} f : sProp 𝕄) = iprop(pB c 0 f ∗ pB c 1 f) :=
  (pointsTo_blocks (bSet c) (b_disj c) (b_cover c) _).trans (bigSep_fin_two fun s => pB c s f)

/-- The two slots, whatever they hold, are the whole weight buffer. -/
theorem b_join (c : Dev nD) (f g : (cc0_scratch1 : Ref sig .tc).ty.Contents (Elt F)) :
    iprop(pB c 0 f ∗ pB c 1 g) ⊢ (iprop(∃ h : Buf (Elt F) ((c : Thread nD τ).loc cc0_scratch1), ((c : Thread nD τ).loc cc0_scratch1) ↦{fullShare} h) : sProp 𝕄) := by
  refine (pointsTo_join (b_disj c 0 1 (by decide))).trans ?_
  rw [show bSet c 0 ∪ bSet c 1 = Finset.univ from by
    rw [← b_cover c]; ext i; simp [Fin.exists_fin_two]]
  iintro H
  iexists _
  iexact H

/-- A device's row of maxima: the share it keeps and those the copies take. -/
theorem a_shares (c : Dev nD) (f : (cc0_scratch2 : Ref sig .tc).ty.Contents (Elt F)) :
    (pA c c fullShare f : sProp 𝕄) = iprop(pA c c shr₀ f ∗ bigSep Finset.univ fun k : Fin 31 => pA c c (shr k) f) := by
  unfold pA
  rw [ShareLeaves.pointsTo_leaves _ _ 5 fullShare]
  show bigSep (Finset.univ : Finset (Fin 32)) _ = _
  rw [Fin.univ_succ, Finset.cons_eq_insert, bigSep_insert (by simp), bigSep_map]
  rfl

end Cert.KernelIdeal.A2A

end
-- ==== Proof.Landing.lean ====
module

public import proofs.«01_k».proof.Proof.Blocks
public import Idealize.ShloMosaic.Lib.Pipeline.Value

/-! # What each copy leaves where it lands -/

@[expose] public section

noncomputable section

namespace Cert.KernelIdeal.A2A

open Cert.KernelIdeal Cert.KernelIdeal.Gen

open Idealize.ShloMosaic
open Idealize.ShloMosaic.TcCoe

variable {F : FTy → Type} [FloatOps F]

variable (m : (ℓ : Loc nD τ sig) → Buf (Elt F) ℓ)

/-! ## Places -/

theorem emb_xBlk (s : Dev nD) (j : S128x128.Idx) (a : Fin 2) :
    ((xBlk s).view.emb j a).val = (![128 * s.val, 0] : Fin 2 → ℕ) a + (j a).val := by
  show (![128 * s.val, 0] : Fin 2 → ℕ) a + 1 * (j a).val = _
  rw [Nat.one_mul]
theorem emb_gBlk (s : Dev nD) (j : S128x128.Idx) (a : Fin 2) :
    ((gBlk s).view.emb j a).val = (![0, 128 * s.val] : Fin 2 → ℕ) a + (j a).val := by
  show (![0, 128 * s.val] : Fin 2 → ℕ) a + 1 * (j a).val = _
  rw [Nat.one_mul]
theorem emb_wRows (k : Fin 8) (j : S512x2048.Idx) (a : Fin 2) :
    ((wRows wM k).view.emb j a).val = (![512 * k.val, 0] : Fin 2 → ℕ) a + (j a).val := by
  show (![512 * k.val, 0] : Fin 2 → ℕ) a + 1 * (j a).val = _
  rw [Nat.one_mul]
theorem emb_bRect (s : Fin 2) (j : S1x512x2048.Idx) (a : Fin 3) :
    ((bRect s).emb j a).val = (![s.val, 0, 0] : Fin 3 → ℕ) a + (j a).val := by
  show (![s.val, 0, 0] : Fin 3 → ℕ) a + 1 * (j a).val = _
  rw [Nat.one_mul]
theorem emb_aRect (s : Dev nD) (j : S1x8x128.Idx) (a : Fin 3) :
    ((aRect s).emb j a).val = (![s.val, 0, 0] : Fin 3 → ℕ) a + (j a).val := by
  show (![s.val, 0, 0] : Fin 3 → ℕ) a + 1 * (j a).val = _
  rw [Nat.one_mul]

/-- Dropping the slot's axis: where row `j 0`, lane `j 1` of a slot lies. -/
theorem emb_wSlot (s : Fin 2) (j : S512x2048.Idx) :
    (wSlot bM s).view.emb j = (bRect s).emb (Fin.cons (⟨0, Nat.one_pos⟩ : Fin 1) j : S1x512x2048.Idx) :=
  congrArg (bRect s).emb (shapeCast_dropUnit_apply ![512, 2048] (fun i : S1x512x2048.Idx => i) (by decide) j)

/-! ## `x` -/

theorem xs_congr {s s' : Dev nD} {i i' : S4096x128.Idx} (h : s.val = s'.val) (h0 : (i 0).val = (i' 0).val) (h1 : (i 1).val = (i' 1).val) :
    xs m s i = xs m s' i' := by
  have e : i = i' := funext fun a => by
    fin_cases a
    · exact Fin.ext h0
    · exact Fin.ext h1
  rw [Fin.ext h, e]

/-- Columns `s` of device `d`'s gathered `x`, read off device `s`'s rows `d`. -/
theorem XG_block (d s : Dev nD) (j : S128x128.Idx) : XG m d ((gBlk s).view.emb j) = xs m s ((xBlk d).view.emb j) := by
  have g0 := emb_gBlk s j 0
  have g1 := emb_gBlk s j 1
  have x0 := emb_xBlk d j 0
  have x1 := emb_xBlk d j 1
  have j1 : (j 1).val < 128 := (j 1).isLt
  simp only [Matrix.cons_val_zero, Matrix.cons_val_one] at g0 g1 x0 x1
  refine xs_congr m ?_ ?_ ?_
  · show ((gBlk s).view.emb j 1).val / 128 = s.val; rw [g1]; omega
  · show 128 * d.val + ((gBlk s).view.emb j 0).val = _; rw [g0, x0]; omega
  · show ((gBlk s).view.emb j 1).val % 128 = _; rw [g1, x1]; omega

theorem land_x (d s : Dev nD) (f : (cc0_scratch0 : Ref sig .tc).ty.Contents (Elt F)) :
    ∀ i ∈ (gBlk s).view.set, (gBlk s).view.write (Elt F) f ((xBlk d).view.read (Elt F) (xs m s)) Finset.univ i = XG m d i := by
  intro i hi
  obtain ⟨j, rfl⟩ := View.exists_emb_of_mem_set _ hi
  refine (View.write_emb_of_mem (v := (gBlk s).view) (Val := Elt F) f _ (Finset.mem_univ j)).trans ?_
  exact (XG_block m d s j).symm

/-! ## Weights -/

theorem ws_congr {c : Dev nD} {i i' : S4096x2048.Idx} (h0 : (i 0).val = (i' 0).val) (h1 : (i 1).val = (i' 1).val) :
    ws m c i = ws m c i' := by
  have e : i = i' := funext fun a => by
    fin_cases a
    · exact Fin.ext h0
    · exact Fin.ext h1
  rw [e]

theorem land_w (c : Dev nD) (s : Fin 2) (k : Fin 8) (f : (cc0_scratch1 : Ref sig .tc).ty.Contents (Elt F)) :
    ∀ i ∈ (wSlot bM s).view.set, (wSlot bM s).view.write (Elt F) f ((wRows wM k).view.read (Elt F) (ws m c)) Finset.univ i = WB m c k i := by
  intro i hi
  obtain ⟨j, rfl⟩ := View.exists_emb_of_mem_set _ hi
  refine (View.write_emb_of_mem (v := (wSlot bM s).view) (Val := Elt F) f _ (Finset.mem_univ j)).trans ?_
  show ws m c ((wRows wM k).view.emb j) = WB m c k ((wSlot bM s).view.emb j)
  rw [emb_wSlot]
  have w0 := emb_wRows k j 0
  have w1 := emb_wRows k j 1
  have b1 := emb_bRect s (Fin.cons (⟨0, Nat.one_pos⟩ : Fin 1) j : S1x512x2048.Idx) 1
  have b2 := emb_bRect s (Fin.cons (⟨0, Nat.one_pos⟩ : Fin 1) j : S1x512x2048.Idx) 2
  simp only [Matrix.cons_val_zero, Matrix.cons_val_one] at w0 w1
  refine ws_congr m ?_ ?_
  · refine w0.trans ?_
    show _ = 512 * k.val + ((bRect s).emb (Fin.cons (⟨0, Nat.one_pos⟩ : Fin 1) j : S1x512x2048.Idx) 1).val
    rw [b1]
    show 512 * k.val + (j 0).val = 512 * k.val + (0 + (j 0).val)
    rw [Nat.zero_add]
  · refine w1.trans ?_
    refine Eq.trans ?_ b2.symm
    show 0 + (j 1).val = 0 + (j 1).val
    rfl

/-! ## Maxima -/

/-- Row `s` of the table, read back. -/
theorem AM_block (s : Dev nD) (j : S1x8x128.Idx) : AM m ((aBlk s).view.emb j) = amaxOf (yAt m s) j := by
  have a0 := emb_aRect s j 0
  have a1 := emb_aRect s j 1
  have a2 := emb_aRect s j 2
  have j0 : (j 0).val = 0 := by have : (j 0).val < 1 := (j 0).isLt; omega
  have e0 : (((aRect s).emb j 0 : Fin 32) : Dev nD) = s := Fin.ext (a0.trans (by rw [j0]; rfl))
  show amaxOf (yAt m ((aRect s).emb j 0 : Fin 32)) _ = _
  rw [e0]
  refine congrArg _ (funext fun a => ?_)
  fin_cases a
  · exact Fin.ext j0.symm
  · exact Fin.ext (a1.trans (Nat.zero_add _))
  · exact Fin.ext (a2.trans (Nat.zero_add _))

theorem write_a (s : Dev nD) (f A : (cc0_scratch2 : Ref sig .tc).ty.Contents (Elt F)) (w : FVec F S1x8x128 .f32)
    (h : ∀ j : S1x8x128.Idx, A ((aBlk s).view.emb j) = w j) :
    ∀ i ∈ (aBlk s).view.set, (aBlk s).view.write (Elt F) f w Finset.univ i = A i := by
  intro i hi
  obtain ⟨j, rfl⟩ := View.exists_emb_of_mem_set _ hi
  refine (View.write_emb_of_mem (v := (aBlk s).view) (Val := Elt F) f _ (Finset.mem_univ j)).trans ?_
  exact (h j).symm

theorem write_self (s : Dev nD) (f A : (cc0_scratch2 : Ref sig .tc).ty.Contents (Elt F)) :
    ∀ i ∈ (aBlk s).view.set, (aBlk s).view.write (Elt F) f ((aBlk s).view.read (Elt F) A) Finset.univ i = A i :=
  write_a s f A _ fun _ => rfl

theorem land_a (s : Dev nD) (f : (cc0_scratch2 : Ref sig .tc).ty.Contents (Elt F)) :
    ∀ i ∈ (aBlk s).view.set, (aBlk s).view.write (Elt F) f ((aBlk s).view.read (Elt F) (AM m)) Finset.univ i = AM m i :=
  write_self s f (AM m)

theorem own_a (s : Dev nD) (f : (cc0_scratch2 : Ref sig .tc).ty.Contents (Elt F)) :
    ∀ i ∈ (aBlk s).view.set, (aBlk s).view.write (Elt F) f (amaxOf (yAt m s)) Finset.univ i = AM m i :=
  write_a s f (AM m) _ (AM_block m s)

end Cert.KernelIdeal.A2A

end
-- ==== Proof.Steps.lean ====
module

public import proofs.«01_k».proof.Proof.Landing

/-! # One step of each loop

What a device holds before and after one signal, one copy, one wait and one step of the product. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] xs ws XG WB xc wc acc yAt AM outAt amaxOf mac

abbrev 𝒱₀ : Variants := Variants.none

/-- Device `c` running `p` ends in `Q`. -/
abbrev WP (c : Dev nD) {α : Type} (p : KProg F α) (Q : α → sProp 𝕄) : sProp 𝕄 :=
  wp frame (wpE (defs₀ (F := F)) 𝒱₀ (c : Thread nD τ) none) Set.univ p Q

theorem bigSep_succ {n : ℕ} (X : Fin (n + 1) → sProp 𝕄) :
    bigSep Finset.univ X = iprop(X 0 ∗ bigSep Finset.univ fun i : Fin n => X i.succ) := by
  rw [Fin.univ_succ, Finset.cons_eq_insert, bigSep_insert (by simp), bigSep_map]; rfl

/-- A loop, by what holds before each step. `X k` is spent by step `k` and `Y k` left by it. -/
theorem wp_loop {A : Type} (c : Dev nD) (I : sProp 𝕄) [BI.Persistent I] : ∀ (n : ℕ) (f : Fin n → A → KProg F A) (v : ℕ → A) (S : ℕ → sProp 𝕄)
    (X Y : Fin n → sProp 𝕄)
    (_ : ∀ k : Fin n, iprop(I ∗ S k.val ∗ X k) ⊢ WP c (f k (v k.val)) (fun a => iprop(⌜a = v (k.val + 1)⌝ ∗ S (k.val + 1) ∗ Y k))),
    iprop(I ∗ S 0 ∗ bigSep Finset.univ X) ⊢ WP c (loop n f (v 0)) (fun a => iprop(⌜a = v n⌝ ∗ S n ∗ bigSep Finset.univ Y))
  | 0, f, v, S, X, Y, h => by
    show _ ⊢ WP c (.ret (v 0)) _
    unfold WP
    rw [Finset.univ_eq_empty, bigSep_empty, bigSep_empty, wp_ret]
    iintro ⟨-, HS, -⟩
    imodintro
    isplitr; · ipureintro; rfl
    isplitl [HS]; · iexact HS
    iempintro
  | n + 1, f, v, S, X, Y, h => by
    show _ ⊢ WP c (f 0 (v 0) >>= fun b => loop n (fun i => f i.succ) b) _
    unfold WP
    rw [wp_bind, bigSep_succ X, bigSep_succ Y]
    iintro ⟨#HI, HS, HX0, HX⟩
    have h0 : iprop(I ∗ S 0 ∗ X 0) ⊢ WP c (f 0 (v 0)) (fun a => iprop(⌜a = v (0 + 1)⌝ ∗ S (0 + 1) ∗ Y 0)) := h 0
    iapply (wp_wand _ _ _) $$ [HS HX0]
    · iapply h0
      isplitr; · iexact HI
      isplitl [HS]; · iexact HS
      iexact HX0
    iintro %a ⟨%ha, HS, HY0⟩
    subst ha
    iapply (wp_wand _ _ _) $$ [HS HX]
    · iapply (wp_loop c I n (fun i => f i.succ) (fun i => v (i + 1)) (fun i => S (i + 1)) (fun i => X i.succ) (fun i => Y i.succ) (fun k => h k.succ))
      isplitr; · iexact HI
      isplitl [HS]; · iexact HS
      iexact HX
    iintro %b ⟨%hb, HS, HY⟩
    isplitr; · ipureintro; exact hb
    isplitl [HS]; · iexact HS
    isplitl [HY0]; · iexact HY0
    iexact HY

variable (K : Dev nD × Cell → ℕ)

/-- What every device knows: the semaphores' invariants, that each is at its first round, and the levels. -/
def ctx : sProp 𝕄 :=
  iprop((bigSep Finset.univ fun ck : Dev nD × Cell => iprop(cellInv ER (Rd m) (K ck) (kcell ck) ∗ reached ER (kcell ck) 0)) ∗ levAts L lv)

instance ctx_persistent : BI.Persistent (ctx (F := F) m K) := by unfold ctx; infer_instance

theorem ctx_inv (c : Dev nD) (x : Cell) : ctx (F := F) m K ⊢ iprop(cellInv ER (Rd m) (K (c, x)) (cl c x) ∗ reached ER (cl c x) 0) := by
  exact sep_elim_left.trans (bigSep_elim (Finset.mem_univ (c, x)))
/-- A semaphore may be waited for when all that is owed lies above it. -/
theorem ctx_wait (c : Dev nD) (x : Cell) (n : ℕ) (hx : lvl x ≤ n) {O : CellTallies nD τ sig Unit} (hO : Above n O) :
    ctx (F := F) m K ⊢ MayWait (c : Thread nD τ) (csem x) () O := by
  unfold ctx
  exact sep_elim_right.trans (mayWait_above c (csem x) n ((lv_cl c x).trans_le hx) hO)

/-- What a device owes, whatever it has waited for. -/
def own (c : Dev nD) (O : CellTallies nD τ sig Unit) : sProp 𝕄 := iprop(∃ W, owes (c : Thread nD τ) O W)

/-! ## The entry barrier -/

theorem OB_step (c : Dev nD) (k : Fin 31) : OB c k.val = OB c (k.val + 1) + tallyAt (cl (fwd c k) bar) () 1 := by
  unfold OB; rw [dueFrom_step (owB c) k, ← add_assoc]; rfl

theorem payload_bar (c : Dev nD) (k : Fin 31) : (Rd (F := F) m).payload (cl (fwd c k) bar) 0 k = lend c (fwd c k) := by
  rw [Rd_payload]
  show lend (fwd (fwd c k) k.rev) (fwd c k) = _
  rw [fwd_rev]
theorem expect_bar (c : Dev nD) : (Rd (F := F) m).expect (cl c bar) 0 = 31 := by
  rw [Rd_expect]; simp only [duts, if_true, Finset.card_univ, Fintype.card_fin]; rfl

theorem wp_sigStep (c : Dev nD) (k : Fin 31) :
    iprop(ctx m K ∗ own c (OB c k.val) ∗ (dutyTok ER (cl (fwd c k) bar) 0 k ∗ lend c (fwd c k)))
      ⊢ WP (F := F) c (sigStep c k) (fun a => iprop(⌜a = ⟨⟩⌝ ∗ own c (OB c (k.val + 1)) ∗ emp)) := by
  unfold sigStep own WP
  simp only [semSignalWord, Prog.lift]
  iintro ⟨#Hc, ⟨%W, HO⟩, Ht, Hl⟩
  ihave #Hi := (ctx_inv m K (fwd c k) bar) $$ Hc
  icases Hi with ⟨#Hi, #Hr⟩
  iapply (Rounds.wp_signal 𝒱₀ ER (Rd m) (c : Thread nD τ) none (dst := (fwd c k : Thread nD τ)) (κ := K (fwd c k, bar)) (r := 0)
      (d := k) (by rw [Rd_duties m (fwd c k) bar 0]; exact Finset.mem_univ _) ((Rd_amount m (fwd c k) bar 0 k).trans (by decide)) () (O₀ := OB c k.val) (OB c (k.val + 1))
      (OB_step c k)) $$ [HO Ht Hl]
  · isplitr; · iexact Hi
    isplitl [HO]; · iexact HO
    isplitl [Ht]; · iexact Ht
    isplitl [Hl]
    · rw [payload_bar]; iexact Hl
    · iexact Hr
  iintro HO
  rw [wp_ret]; imodintro
  isplitr; · ipureintro; trivial
  isplitl [HO]; · iexists W; iexact HO
  iempintro

theorem Rd_expect_one (c : Dev nD) (x : Cell) (r : ℕ) (h : duts x r = {0}) (N : ℕ) (hN : amt x = N) : 0 + N = (Rd (F := F) m).expect (cl c x) r := by
  rw [Rd_expect, h, Finset.card_singleton, hN]; omega

theorem wp_barWait (c : Dev nD) :
    iprop(ctx m K ∗ own c (OX c 0) ∗ cred (tallyAt (cl c bar) () 31) ∗ atPos ER (cl c bar) 0 ∅ 0)
      ⊢ WP (F := F) c (semWaitWord (SemArray.scalar (sig.barrier 0 rfl) : Sems sig S_).sem 31#32)
          (fun _ => iprop(own c (OX c 0) ∗ semVal (cl c bar) 0 ∗ bigSep Finset.univ fun k : Fin 31 => lend (fwd c k) c)) := by
  unfold own WP
  simp only [semWaitWord, Prog.lift]
  iintro ⟨#Hc, ⟨%W, HO⟩, Hcr, Hat⟩
  ihave #Hi := (ctx_inv m K c bar) $$ Hc
  icases Hi with ⟨#Hi, #Hr⟩
  iapply (Rounds.wp_wait_rest_token 𝒱₀ ER (Rd m) (c : Thread nD τ) none (κ := K (c, bar))
      (wpE_semWait_eq 𝒱₀ (c : Thread nD τ) none Set.univ) (Set.mem_univ _) () (O := OX c 0) (W := W) (R := 0) (m := 0) (T := ∅)
      (by rw [expect_bar]; decide)) $$ [Hcr HO Hat]
  · isplitr; · iexact Hi
    isplitl [Hcr]; · iexact Hcr
    isplitl [HO]; · iexact HO
    isplitr
    · iapply (ctx_wait m K c bar 1 le_rfl (above_OX c 0))
      iexact Hc
    iexact Hat
  iintro ⟨HO, Hat, -, Hpay⟩
  ihave Hp := (Entails.of_eq ((Rd_rest m c bar 0).trans (rev_all fun k => lend (fwd c k) c))) $$ Hpay
  imod (Rounds.cell_close ER (Rd m) (Set.mem_univ (K (c, bar))) (fun h => h) (R := 0 + 1) (fun r hr => Rd_later m c bar r hr)) $$ [Hat] with Hz
  · isplitr; · iexact Hi
    iexact Hat
  rw [wp_ret]; imodintro
  isplitl [HO]; · iexists _; iexact HO
  isplitl [Hz]; · iexact Hz
  iexact Hp

/-! ## The exchange of `x` -/

theorem OX_step (c : Dev nD) (k : Fin 31) : OX c k.val = OX c (k.val + 1) + tallyAt (cl (fwd c k) (ch 1 k)) () NX := by
  unfold OX; rw [dueFrom_step (owX c) k, ← add_assoc]; rfl

theorem amount_gBlk (c : Dev nD) (q : DmaSem sig) : (gBlk c).view.amount (.dma q) = NX := rfl
theorem amount_aBlk (c : Dev nD) (q : DmaSem sig) : (aBlk c).view.amount (.dma q) = NA := rfl
theorem amount_wSlot (s : Fin 2) (q : DmaSem sig) : (wSlot bM s).view.amount (.dma q) = NW := rfl

theorem payload_recv (c : Dev nD) (k : Fin 31) : (Rd (F := F) m).payload (cl (fwd c k) (ch 1 k)) 0 0 = pG (fwd c k) c (XG m (fwd c k)) := by
  rw [Rd_payload]
  show pG (fwd c k) (fwd (fwd c k) k.rev) _ = _
  rw [fwd_rev]

/-- One transfer of a block of `x`, its two ends named apart from the program's text. -/
theorem wp_xSend (c : Dev nD) (k : Fin 31) (src : Memref sig .tc .vmem S128x128 .f32) (dst : Memref sig (Dev.tc (fwd c k) : Thread nD τ).2.kind .vmem S128x128 .f32)
    (hs : src = xBlk (fwd c k)) (hd : dst = gBlk c) {hsc : dst.view.ref.isScScratch = false}
    {hsrc : src.view.WordExact} {hdst : dst.view.WordExact}
    {hsem : DmaTarget.Typed .vmem (.dma (sem31 cc0_scratch4 k)) (.remote (Dev.tc (fwd c k) : Thread nD τ) dst (.dma (sem31 cc0_scratch3 k)) hsc)} :
    iprop(ctx m K ∗ own c (OX c k.val) ∗ (pX m c (fwd c k) ∗ (∃ f, pG (fwd c k) c f) ∗ dutyTok ER (cl c (ch 0 k)) 0 0 ∗ dutyTok ER (cl (fwd c k) (ch 1 k)) 0 0))
      ⊢ WP (F := F) c (.op (.enqueueDma src (.remote (Dev.tc (fwd c k) : Thread nD τ) dst (.dma (sem31 cc0_scratch3 k)) hsc) (.dma (sem31 cc0_scratch4 k)) hsrc hdst hsem) .ret)
          (fun a => iprop(⌜a = ⟨⟩⌝ ∗ own c (OX c (k.val + 1)) ∗ cred (tallyAt (cl c (ch 0 k)) () NX))) := by
  subst hs hd
  unfold own WP
  iintro ⟨#Hc, ⟨%W, HO⟩, Hx, ⟨%f, Hg⟩, Ht, Ht'⟩
  ihave #Hi := (ctx_inv m K c (ch 0 k)) $$ Hc
  icases Hi with ⟨#Hi, #Hr⟩
  ihave #Hi' := (ctx_inv m K (fwd c k) (ch 1 k)) $$ Hc
  icases Hi' with ⟨#Hi', #Hr'⟩
  unfold pX pG
  iapply (Rounds.wp_send_pointsTo 𝒱₀ ER (Rd m) (c : Thread nD τ) none (κ₁ := K (c, ch 0 k)) (κ₂ := K (fwd c k, ch 1 k))
      (r₁ := 0) (r₂ := 0) (d₁ := 0) (d₂ := 0) (fd := f)
      (by rw [Rd_duties m c (ch 0 k) 0]; exact Finset.mem_singleton_self _) (by rw [Rd_duties m (fwd c k) (ch 1 k) 0]; exact Finset.mem_singleton_self _)
      () () NX (amount_gBlk c _) (Rd_amount m c (ch 0 k) 0 0) (Rd_amount m (fwd c k) (ch 1 k) 0 0) (O₀ := OX c k.val) (OX c (k.val + 1)) (OX_step c k) (W := W)
      (by rw [Rd_payload m c (ch 0 k) 0 0]; exact BI.Entails.refl _)
      (by rw [payload_recv, pointsTo_congr (land_x m (fwd c k) c f)]; exact BI.Entails.refl _)) $$ [HO Hx Hg Ht Ht']
  · isplitr; · iexact Hi
    isplitr; · iexact Hi'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hcr, HO⟩
  rw [wp_ret]; imodintro
  isplitr; · ipureintro; trivial
  isplitl [HO]; · iexists W; iexact HO
  iexact Hcr

theorem wp_xStep (c : Dev nD) (k : Fin 31) :
    iprop(ctx m K ∗ own c (OX c k.val) ∗ (pX m c (fwd c k) ∗ (∃ f, pG (fwd c k) c f) ∗ dutyTok ER (cl c (ch 0 k)) 0 0 ∗ dutyTok ER (cl (fwd c k) (ch 1 k)) 0 0))
      ⊢ WP (F := F) c (xStep xM gM cc0_scratch3 cc0_scratch4 c k)
          (fun a => iprop(⌜a = ⟨⟩⌝ ∗ own c (OX c (k.val + 1)) ∗ cred (tallyAt (cl c (ch 0 k)) () NX))) :=
  wp_xSend m K c k (xRows xM c k) (xCols gM c) (xRows_eq c k) (xCols_eq c)

end Cert.KernelIdeal.A2A

end
-- ==== Proof.Waits.lean ====
module

public import proofs.«01_k».proof.Proof.Steps

/-! # The waits and the steps of the product -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] xs ws XG WB xc wc acc yAt AM outAt amaxOf mac

variable (K : Dev nD × Cell → ℕ)

/-! ## Waiting for a copy -/

/-- A wait for a copy on the device's own semaphore, which takes the whole of the round that is open. -/
theorem wp_dmaWait (c : Dev nD) (x : Cell) (q : DmaSem sig) (hq : csem x = .dma q) (r n : ℕ) (hd : duts x r = {0}) (hx : lvl x ≤ n)
    {O : CellTallies nD τ sig Unit} (hO : Above n O) {sp sp' : Space} {s s' : Shape} {e e' : EltTy}
    (a : Memref sig .tc sp s e) (b : Memref sig .tc sp' s' e') (ha : a.view.WordExact) (hb : b.view.WordExact) (hN : b.view.dmaCredit = amt x) :
    iprop(ctx m K ∗ own c O ∗ cred (tallyAt (cl c x) () (amt x)) ∗ atPos ER (cl c x) r ∅ 0)
      ⊢ WP (F := F) c (Prog.lift (.waitDma2 q a b ha hb))
          (fun _ => iprop(own c O ∗ atPos ER (cl c x) (r + 1) ∅ 0 ∗ reached ER (cl c x) (r + 1) ∗ pay m c x r 0)) := by
  have hg : cl c x = ((c : Thread nD τ), .dma q) := by show ((c : Thread nD τ), csem x) = _; rw [hq]
  have hexp := Rd_expect_one m c x r hd (amt x) rfl
  have hrest := (Rd_rest m c x r).trans (by rw [hd, bigSep_singleton])
  have hw := ctx_wait m K c x n hx hO
  have hi := ctx_inv m K c x
  rw [hq] at hw
  rw [hg] at hexp hrest hi ⊢
  rw [← hN] at hexp ⊢
  unfold own WP
  simp only [Prog.lift]
  iintro ⟨#Hc, ⟨%W, HO⟩, Hcr, Hat⟩
  ihave #Hi := hi $$ Hc
  icases Hi with ⟨#Hi, #Hr⟩
  iapply (Rounds.wp_wait_rest_token 𝒱₀ ER (Rd m) (c : Thread nD τ) none (κ := K (c, x))
      (wpE_waitDma2_eq 𝒱₀ (c : Thread nD τ) none Set.univ) (Set.mem_univ _) () (O := O) (W := W) (R := r) (m := 0) (T := ∅) hexp) $$ [Hcr HO Hat]
  · isplitr; · iexact Hi
    isplitl [Hcr]; · iexact Hcr
    isplitl [HO]; · iexact HO
    isplitr
    · iapply hw; iexact Hc
    iexact Hat
  iintro ⟨HO, Hat, Hre, Hpay⟩
  ihave Hp := (Entails.of_eq hrest) $$ Hpay
  rw [wp_ret]; imodintro
  isplitl [HO]; · iexists _; iexact HO
  isplitl [Hat]; · iexact Hat
  isplitl [Hre]; · iexact Hre
  iexact Hp

/-- A semaphore past its last round gives its counter back. -/
theorem close (c : Dev nD) (x : Cell) (R : ℕ) (h : rnds x ≤ R) :
    iprop(ctx (F := F) m K ∗ atPos ER (cl c x) R ∅ 0) ⊢ iprop(|={Set.univ}[frame]=> semVal (cl c x) 0) := by
  iintro ⟨#Hc, Hat⟩
  ihave #Hi := (ctx_inv m K c x) $$ Hc
  icases Hi with ⟨#Hi, #Hr⟩
  iapply (Rounds.cell_close ER (Rd m) (Set.mem_univ (K (c, x))) (fun h => h) (R := R) (fun r hr => Rd_later m c x r (h.trans hr)))
  isplitr; · iexact Hi
  iexact Hat

/-- A semaphore of one round, waited for and given back. -/
theorem wp_chWait (c : Dev nD) (i : Fin 4) (k : Fin 31) (q : DmaSem sig) (hq : sem31 (chArr i) k = q) (n : ℕ) (hx : lvl (ch i k) ≤ n)
    {O : CellTallies nD τ sig Unit} (hO : Above n O) {sp sp' : Space} {s s' : Shape} {e e' : EltTy}
    (a : Memref sig .tc sp s e) (b : Memref sig .tc sp' s' e') (ha : a.view.WordExact) (hb : b.view.WordExact) (hN : b.view.dmaCredit = amt (ch i k)) :
    iprop(ctx m K ∗ own c O ∗ cred (tallyAt (cl c (ch i k)) () (amt (ch i k))) ∗ atPos ER (cl c (ch i k)) 0 ∅ 0)
      ⊢ WP (F := F) c (Prog.lift (.waitDma2 q a b ha hb))
          (fun _ => iprop(own c O ∗ semVal (cl c (ch i k)) 0 ∗ pay m c (ch i k) 0 0)) := by
  refine BIBase.Entails.trans ?_ (wp_fupd _ _ _ _ _)
  iintro ⟨#Hc, HO, Hcr, Hat⟩
  iapply (wp_wand _ _ _) $$ [HO Hcr Hat]
  · iapply (wp_dmaWait m K c (ch i k) q (congrArg SemLoc.dma hq) 0 n rfl hx hO a b ha hb hN)
    isplitr; · iexact Hc
    isplitl [HO]; · iexact HO
    isplitl [Hcr] <;> iassumption
  iintro %_ ⟨HO, Hat, -, Hp⟩
  imod (close m K c (ch i k) (0 + 1) (le_refl 1)) $$ [Hat] with Hz
  · isplitr; · iexact Hc
    iexact Hat
  imodintro
  isplitl [HO]; · iexact HO
  isplitl [Hz]; · iexact Hz
  iexact Hp

/-- Both waits of copy `k` of `x`. -/
theorem wp_xWait (c : Dev nD) (k : Fin 31) :
    iprop(ctx m K ∗ own c (OA c 0) ∗ (cred (tallyAt (cl c (ch 0 k)) () NX) ∗ atPos ER (cl c (ch 0 k)) 0 ∅ 0
        ∗ cred (tallyAt (cl c (ch 1 k)) () NX) ∗ atPos ER (cl c (ch 1 k)) 0 ∅ 0))
      ⊢ WP (F := F) c (xWait xM gM cc0_scratch3 cc0_scratch4 c k)
          (fun a => iprop(⌜a = ⟨⟩⌝ ∗ own c (OA c 0) ∗ (pX m c (fwd c k) ∗ semVal (cl c (ch 0 k)) 0
            ∗ pG c (fwd c k.rev) (XG m c) ∗ semVal (cl c (ch 1 k)) 0))) := by
  have h0 : iprop(ctx m K ∗ own c (OA c 0) ∗ cred (tallyAt (cl c (ch 0 k)) () NX) ∗ atPos ER (cl c (ch 0 k)) 0 ∅ 0)
      ⊢ WP (F := F) c (Prog.lift (.waitDma2 (sem31 cc0_scratch3 k) (xCols gM c) (xRows xM c k) (View.wordExact_bits rfl) (View.wordExact_bits rfl)))
          (fun _ => iprop(own c (OA c 0) ∗ semVal (cl c (ch 0 k)) 0 ∗ pX m c (fwd c k))) :=
    wp_chWait m K c 0 k _ rfl 2 (Nat.zero_le 2) (above_OA c 0) _ _ _ _ (by rw [xRows_eq]; exact credit_xBlk _)
  have h1 : iprop(ctx m K ∗ own c (OA c 0) ∗ cred (tallyAt (cl c (ch 1 k)) () NX) ∗ atPos ER (cl c (ch 1 k)) 0 ∅ 0)
      ⊢ WP (F := F) c (Prog.lift (.waitDma2 (sem31 cc0_scratch4 k) (xRows xM c k) (xCols gM c) (View.wordExact_bits rfl) (View.wordExact_bits rfl)))
          (fun _ => iprop(own c (OA c 0) ∗ semVal (cl c (ch 1 k)) 0 ∗ pG c (fwd c k.rev) (XG m c))) :=
    wp_chWait m K c 1 k _ rfl 2 (le_refl 2) (above_OA c 0) _ _ _ _ (by rw [xCols_eq]; exact credit_gBlk _)
  unfold xWait
  unfold WP at h0 h1 ⊢
  rw [wp_bind]
  iintro ⟨#Hc, HO, Hcr, Hat, Hcr', Hat'⟩
  iapply (wp_wand _ _ _) $$ [HO Hcr Hat]
  · iapply h0
    isplitr; · iexact Hc
    isplitl [HO]; · iexact HO
    isplitl [Hcr] <;> iassumption
  iintro %_ ⟨HO, Hz, Hx⟩
  iapply (wp_wand _ _ _) $$ [HO Hcr' Hat']
  · iapply h1
    isplitr; · iexact Hc
    isplitl [HO]; · iexact HO
    isplitl [Hcr'] <;> iassumption
  iintro %_ ⟨HO, Hz', Hg⟩
  isplitr; · ipureintro; trivial
  isplitl [HO]; · iexact HO
  isplitl [Hx]; · iexact Hx
  isplitl [Hz]; · iexact Hz
  isplitl [Hg] <;> iassumption

/-- Both waits of copy `k` of the maximum. -/
theorem wp_aWait (c : Dev nD) (k : Fin 31) :
    iprop(ctx m K ∗ own c 0 ∗ (cred (tallyAt (cl c (ch 2 k)) () NA) ∗ atPos ER (cl c (ch 2 k)) 0 ∅ 0
        ∗ cred (tallyAt (cl c (ch 3 k)) () NA) ∗ atPos ER (cl c (ch 3 k)) 0 ∅ 0))
      ⊢ WP (F := F) c (aWait aM cc0_scratch5 cc0_scratch6 c k)
          (fun a => iprop(⌜a = ⟨⟩⌝ ∗ own c 0 ∗ (pA c c (shr k) (AM m) ∗ semVal (cl c (ch 2 k)) 0
            ∗ pA c (fwd c k.rev) fullShare (AM m) ∗ semVal (cl c (ch 3 k)) 0))) := by
  have h0 : iprop(ctx m K ∗ own c 0 ∗ cred (tallyAt (cl c (ch 2 k)) () NA) ∗ atPos ER (cl c (ch 2 k)) 0 ∅ 0)
      ⊢ WP (F := F) c (Prog.lift (.waitDma2 (sem31 cc0_scratch5 k) (aRow aM c) (aRow aM c) (View.wordExact_bits rfl) (View.wordExact_bits rfl)))
          (fun _ => iprop(own c 0 ∗ semVal (cl c (ch 2 k)) 0 ∗ pA c c (shr k) (AM m))) :=
    wp_chWait m K c 2 k _ rfl 3 (Nat.zero_le 3) (Above.zero 3) _ _ _ _ (by rw [aRow_eq]; exact credit_aBlk _)
  have h1 : iprop(ctx m K ∗ own c 0 ∗ cred (tallyAt (cl c (ch 3 k)) () NA) ∗ atPos ER (cl c (ch 3 k)) 0 ∅ 0)
      ⊢ WP (F := F) c (Prog.lift (.waitDma2 (sem31 cc0_scratch6 k) (aRow aM c) (aRow aM c) (View.wordExact_bits rfl) (View.wordExact_bits rfl)))
          (fun _ => iprop(own c 0 ∗ semVal (cl c (ch 3 k)) 0 ∗ pA c (fwd c k.rev) fullShare (AM m))) :=
    wp_chWait m K c 3 k _ rfl 3 (le_refl 3) (Above.zero 3) _ _ _ _ (by rw [aRow_eq]; exact credit_aBlk _)
  unfold aWait
  unfold WP at h0 h1 ⊢
  rw [wp_bind]
  iintro ⟨#Hc, HO, Hcr, Hat, Hcr', Hat'⟩
  iapply (wp_wand _ _ _) $$ [HO Hcr Hat]
  · iapply h0
    isplitr; · iexact Hc
    isplitl [HO]; · iexact HO
    isplitl [Hcr] <;> iassumption
  iintro %_ ⟨HO, Hz, Hx⟩
  iapply (wp_wand _ _ _) $$ [HO Hcr' Hat']
  · iapply h1
    isplitr; · iexact Hc
    isplitl [HO]; · iexact HO
    isplitl [Hcr'] <;> iassumption
  iintro %_ ⟨HO, Hz', Hg⟩
  isplitr; · ipureintro; trivial
  isplitl [HO]; · iexact HO
  isplitl [Hx]; · iexact Hx
  isplitl [Hz]; · iexact Hz
  isplitl [Hg] <;> iassumption

end Cert.KernelIdeal.A2A

end
-- ==== Proof.Product.lean ====
module

public import proofs.«01_k».proof.Proof.Waits

/-! # The product

The copy of a device's own block, and the loop that brings in the weights and sums the products. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem acc_zero (c : Dev nD) : acc m c 0 = k0_pay3 := rfl
theorem acc_step (c : Dev nD) (j : Fin 8) : mac (acc m c j.val) (xc m c j) (wc m c j) = acc m c (j.val + 1) := by
  show _ = dite _ _ _
  rw [dif_pos j.isLt]
theorem yAt_eq (c : Dev nD) : yAt m c = acc m c (7 + 1) := rfl
theorem xc_eq (c : Dev nD) (j : Fin 8) : gM.view.readAt (Elt F) (cRect j).toLoadRect (XG m c) = xc m c j := rfl
theorem wc_eq (c : Dev nD) (j : Fin 8) : (bM.access (bRect (slotOf j))).read (Elt F) (WB m c j) = wc m c j := rfl

attribute [local irreducible] xs ws XG WB xc wc acc yAt AM outAt amaxOf mac

/-- The device's whole gathered `x`. -/
def gath (c : Dev nD) (f : (cc0_scratch0 : Ref sig .tc).ty.Contents (Elt F)) : sProp 𝕄 :=
  ((c : Thread nD τ).loc cc0_scratch0) ↦{fullShare} f

/-! ## The device's own block -/

theorem own_g (s : Dev nD) (f : (cc0_scratch0 : Ref sig .tc).ty.Contents (Elt F)) :
    ∀ i ∈ (gBlk s).view.set, (gBlk s).view.write (Elt F) f (k0_pay2 ((xM.access (xRect s)).read (Elt F) (xs m s))) Finset.univ i = XG m s i := by
  intro i hi
  obtain ⟨j, rfl⟩ := View.exists_emb_of_mem_set _ hi
  refine (View.write_emb_of_mem (v := (gBlk s).view) (Val := Elt F) f _ (Finset.mem_univ j)).trans ?_
  have e : k0_pay2 ((xM.access (xRect s)).read (Elt F) (xs m s)) = (xM.access (xRect s)).read (Elt F) (xs m s) := by
    unfold k0_pay2
    exact (shapeCast_self _ _).trans (shapeCast_self _ _)
  rw [e]
  exact (XG_block m s s j).symm

theorem own_pG (c : Dev nD) (f : (cc0_scratch0 : Ref sig .tc).ty.Contents (Elt F)) :
    pG c c ((gBlk c).view.write (Elt F) f (k0_pay2 ((xM.access (xRect c)).read (Elt F) (xs m c))) Finset.univ) ⊢ pG c c (XG m c) := by
  unfold pG
  rw [pointsTo_congr (own_g m c f)]

theorem own_pG' (c : Dev nD) (f : (cc0_scratch0 : Ref sig .tc).ty.Contents (Elt F)) :
    ((gM.access (gRect c)).loc (c : Thread nD τ) ↦[(gBlk c).view.set]{fullShare} (gM.access (gRect c)).write (Elt F) f (k0_pay2 ((xM.access (xRect c)).read (Elt F) (xs m c))) Finset.univ)
      ⊢ ((gBlk c).view.loc (c : Thread nD τ) ↦[(gBlk c).view.set]{fullShare} XG m c : sProp 𝕄) := own_pG m c f

/-- The copy of a block, at any offsets. -/
def ownAt (o1 o2 : Fin 2 → ℕ) (h1 : ∀ a, o1 a + S128x128.size a ≤ S4096x128.size a) (h2 : ∀ a, o2 a + S128x128.size a ≤ S128x4096.size a) : KProg F PUnit :=
  Prog.lift (.load xM (Rect.unit (s := S4096x128) o1 S128x128.size h1).toLoadRect (View.loadsAt_vmem h_S128x128)) >>= fun v =>
  Prog.lift (.load gM (Rect.unit (s := S128x4096) o2 S128x128.size h2).toLoadRect (View.loadsAt_vmem h_S128x128)) >>= fun _ =>
  Prog.lift (.store gM (Rect.unit (s := S128x4096) o2 S128x128.size h2) (k0_pay2 v) Finset.univ
    (View.stores_vmem_bits_univ h_S128x128 rfl) (.inl rfl))

theorem wp_ownAt (c : Dev nD) (o1 o2 : Fin 2 → ℕ) (h1) (h2) (e1 : o1 = ![128 * c.val, 0]) (e2 : o2 = ![0, 128 * c.val]) :
    iprop(pX m c c ∗ (∃ f, pG c c f)) ⊢ WP (F := F) c (ownAt o1 o2 h1 h2) (fun _ => iprop(pX m c c ∗ pG c c (XG m c))) := by
  subst e1 e2
  unfold ownAt WP
  iintro ⟨Hx, ⟨%f, Hg⟩⟩
  unfold pX pG
  iapply (wp_load_rect 𝒱₀ (c : Thread nD τ) none Set.univ (m := xM) (r := xRect c) (Finset.Subset.refl _)) $$ Hx; iintro Hx
  iapply (wp_load_rect 𝒱₀ (c : Thread nD τ) none Set.univ (m := gM) (r := gRect c) (Finset.Subset.refl _)) $$ Hg; iintro Hg
  iapply (wp_store 𝒱₀ (c : Thread nD τ) none Set.univ (m := gM) (r := gRect c) (Mk := Finset.univ) (S := (gBlk c).view.set) (Finset.Subset.refl _)) $$ Hg; iintro Hg
  rw [wp_ret]; imodintro
  isplitl [Hx]; · iexact Hx
  iapply (own_pG' m c f) $$ Hg

theorem wp_ownStep (c : Dev nD) :
    iprop(pX m c c ∗ (∃ f, pG c c f)) ⊢ WP (F := F) c (ownStep xM gM c) (fun _ => iprop(pX m c c ∗ pG c c (XG m c))) :=
  wp_ownAt m c (k0_off1 c) (k0_off2 c) (k0_off1_inb c) (k0_off2_inb c) (k0_off1_eq c) (k0_off2_eq c)

/-! ## Bringing in one chunk -/

variable (K : Dev nD × Cell → ℕ)

theorem duts_wd (s : Fin 2) (r : ℕ) (h : r < 4) : duts (wd s) r = {0} := if_pos h
theorem chunk_slot (j : Fin 8) : chunk (slotOf j) (j.val / 2) = j := Fin.ext (by
  show (2 * (j.val / 2) + j.val % 2) % 8 = j.val
  omega)
theorem half_lt (j : Fin 8) : j.val / 2 < 4 := by omega

theorem amount_wd (c : Dev nD) (s : Fin 2) (r : ℕ) : (Rd (F := F) m).amount (cl c (wd s)) r 0 = NW :=
  (Rd_amount m c (wd s) r 0).trans (amt_wd s)

theorem mem_wd (c : Dev nD) (s : Fin 2) (r : ℕ) (h : r < 4) : (0 : Fin 31) ∈ (Rd (F := F) m).duties (cl c (wd s)) r := by
  rw [Rd_duties m c (wd s), duts_wd s r h]; exact Finset.mem_singleton_self _

theorem payload_chunk (c : Dev nD) (j : Fin 8) :
    (Rd (F := F) m).payload (cl c (wd (slotOf j))) (j.val / 2) 0 = iprop(pB c (slotOf j) (WB m c j) ∗ pW m c j) := by
  rw [Rd_payload]
  show iprop(pB c (slotOf j) (WB m c (chunk (slotOf j) (j.val / 2))) ∗ pW m c (chunk (slotOf j) (j.val / 2))) = _
  rw [chunk_slot]

/-- A copy on the device itself that pays the only duty of a round. -/
theorem wp_copyTo (c : Dev nD) (x : Cell) (q : DmaSem sig) (hq : csem x = .dma q) (r : ℕ) (hd : (0 : Fin 31) ∈ (Rd (F := F) m).duties (cl c x) r)
    {sp sp' : Space} {s : Shape} {e : EltTy} (src : Memref sig .tc sp s e) (dst : Memref sig .tc sp' s e) (h1 : src.view.WordExact) (h2 : dst.view.WordExact)
    (h3 : DmaTarget.Typed (nD := nD) sp (.dma q) (DmaTarget.here (p := (Proc.tc : Proc τ)) dst)) (fs : Buf (Elt F) (src.view.loc (c : Thread nD τ)))
    (N : ℕ) (hN : dst.view.amount (.dma q) = N) (hk : (Rd (F := F) m).amount (cl c x) r 0 = N)
    (hp : ∀ f, iprop((dst.view.loc (c : Thread nD τ) ↦[dst.view.set]{fullShare} (dst.view.write (Elt F) f (src.view.read (Elt F) fs) Finset.univ))
        ∗ (src.view.loc (c : Thread nD τ) ↦[src.view.set]{fullShare} fs)) ⊢ (Rd (F := F) m).payload (cl c x) r 0) :
    iprop(ctx m K ∗ (src.view.loc (c : Thread nD τ) ↦[src.view.set]{fullShare} fs) ∗ (∃ f, dst.view.loc (c : Thread nD τ) ↦[dst.view.set]{fullShare} f)
        ∗ dutyTok ER (cl c x) r 0 ∗ reached ER (cl c x) r)
      ⊢ WP (F := F) c (Prog.lift (.enqueueDma src (.here dst) (.dma q) h1 h2 h3)) (fun _ => cred (tallyAt (cl c x) () N)) := by
  have e : cl c x = ((c : Thread nD τ), SemLoc.dma q) := Prod.ext rfl hq
  unfold WP
  iintro ⟨#Hc, Hs, ⟨%f, Hd⟩, Ht, Hr⟩
  ihave #Hi := (ctx_inv m K c x) $$ Hc
  icases Hi with ⟨#Hi, -⟩
  rw [e] at hd hk hp ⊢
  iapply (Rounds.wp_copy_pointsTo 𝒱₀ ER (Rd m) (c : Thread nD τ) none (κ := K (c, x)) (r := r) (d := 0) (fd := f) hd () N hN hk (hp f)) $$ [Hs Hd Ht Hr]
  · isplitr; · iexact Hi
    isplitl [Hs]; · iexact Hs
    isplitl [Hd]; · iexact Hd
    isplitl [Ht] <;> iassumption
  iintro Hcr
  rw [wp_ret]; imodintro
  iexact Hcr

theorem wp_wStep (c : Dev nD) (j : Fin 8) :
    iprop(ctx m K ∗ (∃ f, pB c (slotOf j) f) ∗ reached ER (cl c (wd (slotOf j))) (j.val / 2) ∗ pW m c j ∗ dutyTok ER (cl c (wd (slotOf j))) (j.val / 2) 0)
      ⊢ WP (F := F) c (wStep wM bM cc0_scratch7 j) (fun _ => cred (tallyAt (cl c (wd (slotOf j))) () NW)) := by
  have hd := mem_wd m c (slotOf j) (j.val / 2) (half_lt j)
  have hk := amount_wd m c (slotOf j) (j.val / 2)
  have hp : ∀ f, iprop(pB c (slotOf j) ((wSlot bM (slotOf j)).view.write (Elt F) f ((wRows wM j).view.read (Elt F) (ws m c)) Finset.univ) ∗ pW m c j)
      ⊢ (Rd (F := F) m).payload (cl c (wd (slotOf j))) (j.val / 2) 0 := fun f => by
    rw [payload_chunk]; unfold pB; rw [pointsTo_congr (land_w m c (slotOf j) j f)]
  have h := wp_copyTo m K c (wd (slotOf j)) _ rfl (j.val / 2) hd (wRows wM j) (wSlot bM (slotOf j)) (View.wordExact_bits rfl)
    ((View.wordExact_bits rfl).reshape _ _) ⟨Or.inl rfl, trivial⟩ (ws m c) NW (amount_wSlot (slotOf j) _) hk hp
  iintro ⟨#Hc, Hb, Hr, Hw, Ht⟩
  unfold wStep pB pW
  iapply h
  isplitr; · iexact Hc
  isplitl [Hw]; · iexact Hw
  isplitl [Hb]; · iexact Hb
  isplitl [Ht] <;> iassumption

theorem wp_wUse (c : Dev nD) (j : Fin 8) :
    iprop(ctx m K ∗ own c (OA c 0) ∗ cred (tallyAt (cl c (wd (slotOf j))) () NW) ∗ atPos ER (cl c (wd (slotOf j))) (j.val / 2) ∅ 0 ∗ gath c (XG m c))
      ⊢ WP (F := F) c (wUse wM gM bM cc0_scratch7 j (acc m c j.val))
          (fun a => iprop(⌜a = acc m c (j.val + 1)⌝ ∗ own c (OA c 0) ∗ gath c (XG m c) ∗ atPos ER (cl c (wd (slotOf j))) (j.val / 2 + 1) ∅ 0
            ∗ reached ER (cl c (wd (slotOf j))) (j.val / 2 + 1) ∗ (∃ f, pB c (slotOf j) f) ∗ pW m c j)) := by
  have h0 := wp_dmaWait m K c (wd (slotOf j)) (sem2 cc0_scratch7 (slotOf j)) rfl (j.val / 2) 2 (duts_wd _ _ (half_lt j)) (Nat.zero_le 2) (above_OA c 0)
    (wRows wM j) (wSlot bM (slotOf j)) (View.wordExact_bits rfl) ((View.wordExact_bits rfl).reshape _ _) ((credit_wSlot _).trans (amt_wd _).symm)
  have hp : pay m c (wd (slotOf j)) (j.val / 2) 0 = iprop(pB c (slotOf j) (WB m c j) ∗ pW m c j) := by
    rw [← payload_chunk, Rd_payload]
  rw [hp, amt_wd] at h0
  unfold wUse
  unfold WP at h0 ⊢
  rw [wp_bind]
  iintro ⟨#Hc, HO, Hcr, Hat, Hg⟩
  iapply (wp_wand _ _ _) $$ [HO Hcr Hat]
  · iapply h0
    isplitr; · iexact Hc
    isplitl [HO]; · iexact HO
    isplitl [Hcr] <;> iassumption
  iintro %_ ⟨HO, Hat, Hr, Hb, Hw⟩
  unfold gath pB
  iapply (wp_load 𝒱₀ (c : Thread nD τ) none Set.univ (m := gM) (r := (cRect j).toLoadRect) (Finset.subset_univ _)) $$ Hg; iintro Hg
  iapply (wp_load_rect 𝒱₀ (c : Thread nD τ) none Set.univ (m := bM) (r := bRect (slotOf j))
    (by rw [set_wSlot]; exact (View.set_slice_whole cc0_scratch1 (bRect (slotOf j))).subset)) $$ Hb; iintro Hb
  rw [xc_eq, wc_eq]
  rw [Prog.bind, Prog.pure_eq_ret, acc_step, wp_ret]; imodintro
  isplitr; · ipureintro; trivial
  isplitl [HO]; · iexact HO
  isplitl [Hg]; · iexact Hg
  isplitl [Hat]; · iexact Hat
  isplitl [Hr]; · iexact Hr
  isplitl [Hb]; · iexists _; iexact Hb
  iexact Hw

/-! ## The loop -/

/-- The slot of chunk `j`. -/
def sl (j : ℕ) : Fin 2 := ⟨j % 2, Nat.mod_lt _ (by decide)⟩

theorem sl_two (j : ℕ) : sl (j + 1 + 1) = sl j := Fin.ext (by show (j + 1 + 1) % 2 = j % 2; omega)
theorem half_two (j : ℕ) : (j + 1 + 1) / 2 = j / 2 + 1 := by omega

/-- Before step `j`: chunk `j` is on its way and the other slot is free. -/
def SP (c : Dev nD) (j : ℕ) : sProp 𝕄 :=
  iprop(own c (OA c 0) ∗ gath c (XG m c) ∗ (cred (tallyAt (cl c (wd (sl j))) () NW) ∗ atPos ER (cl c (wd (sl j))) (j / 2) ∅ 0)
    ∗ ((∃ f, pB c (sl (j + 1)) f) ∗ atPos ER (cl c (wd (sl (j + 1)))) ((j + 1) / 2) ∅ 0 ∗ reached ER (cl c (wd (sl (j + 1)))) ((j + 1) / 2)))

theorem wp_turn (c : Dev nD) (j : Fin 7) :
    iprop(ctx m K ∗ SP m c j.val ∗ (pW m c j.succ ∗ dutyTok ER (cl c (wd (sl (j.val + 1)))) ((j.val + 1) / 2) 0))
      ⊢ WP (F := F) c (wStep wM bM cc0_scratch7 j.succ >>= fun _ => wUse wM gM bM cc0_scratch7 j.castSucc (acc m c j.val))
          (fun a => iprop(⌜a = acc m c (j.val + 1)⌝ ∗ SP m c (j.val + 1) ∗ pW m c j.castSucc)) := by
  have h0 : iprop(ctx m K ∗ (∃ f, pB c (sl (j.val + 1)) f) ∗ reached ER (cl c (wd (sl (j.val + 1)))) ((j.val + 1) / 2) ∗ pW m c j.succ
        ∗ dutyTok ER (cl c (wd (sl (j.val + 1)))) ((j.val + 1) / 2) 0)
      ⊢ WP (F := F) c (wStep wM bM cc0_scratch7 j.succ) (fun _ => cred (tallyAt (cl c (wd (sl (j.val + 1)))) () NW)) := wp_wStep m K c j.succ
  have h1 : iprop(ctx m K ∗ own c (OA c 0) ∗ cred (tallyAt (cl c (wd (sl j.val))) () NW) ∗ atPos ER (cl c (wd (sl j.val))) (j.val / 2) ∅ 0 ∗ gath c (XG m c))
      ⊢ WP (F := F) c (wUse wM gM bM cc0_scratch7 j.castSucc (acc m c j.val))
          (fun a => iprop(⌜a = acc m c (j.val + 1)⌝ ∗ own c (OA c 0) ∗ gath c (XG m c) ∗ atPos ER (cl c (wd (sl j.val))) (j.val / 2 + 1) ∅ 0
            ∗ reached ER (cl c (wd (sl j.val))) (j.val / 2 + 1) ∗ (∃ f, pB c (sl j.val) f) ∗ pW m c j.castSucc)) := wp_wUse m K c j.castSucc
  unfold SP
  rw [sl_two, half_two]
  unfold WP at h0 h1 ⊢
  rw [wp_bind]
  iintro ⟨#Hc, ⟨HO, Hg, ⟨Hcr, Hat⟩, Hb, Hat', Hr'⟩, Hw, Ht⟩
  iapply (wp_wand _ _ _) $$ [Hb Hr' Hw Ht]
  · iapply h0
    isplitr; · iexact Hc
    isplitl [Hb]; · iexact Hb
    isplitl [Hr']; · iexact Hr'
    isplitl [Hw] <;> iassumption
  iintro %_ Hcr'
  iapply (wp_wand _ _ _) $$ [HO Hcr Hat Hg]
  · iapply h1
    isplitr; · iexact Hc
    isplitl [HO]; · iexact HO
    isplitl [Hcr]; · iexact Hcr
    isplitl [Hat] <;> iassumption
  iintro %a ⟨%ha, HO, Hg, Hat, Hr, Hb, Hw⟩
  isplitr; · ipureintro; exact ha
  isplitr [Hw]
  · isplitl [HO]; · iexact HO
    isplitl [Hg]; · iexact Hg
    isplitl [Hcr' Hat']
    · isplitl [Hcr'] <;> iassumption
    isplitl [Hb]; · iexact Hb
    isplitl [Hat] <;> iassumption
  iexact Hw

theorem wp_last (c : Dev nD) :
    iprop(ctx m K ∗ SP m c 7)
      ⊢ WP (F := F) c (wUse wM gM bM cc0_scratch7 7 (acc m c 7))
          (fun a => iprop(⌜a = yAt m c⌝ ∗ own c (OA c 0) ∗ gath c (XG m c) ∗ ((∃ f, pB c 0 f) ∗ (∃ f, pB c 1 f))
            ∗ (semVal (cl c (wd 0)) 0 ∗ semVal (cl c (wd 1)) 0) ∗ pW m c 7)) := by
  have h1 : iprop(ctx m K ∗ own c (OA c 0) ∗ cred (tallyAt (cl c (wd 1)) () NW) ∗ atPos ER (cl c (wd 1)) 3 ∅ 0 ∗ gath c (XG m c))
      ⊢ WP (F := F) c (wUse wM gM bM cc0_scratch7 7 (acc m c 7))
          (fun a => iprop(⌜a = acc m c (7 + 1)⌝ ∗ own c (OA c 0) ∗ gath c (XG m c) ∗ atPos ER (cl c (wd 1)) 4 ∅ 0
            ∗ reached ER (cl c (wd 1)) 4 ∗ (∃ f, pB c 1 f) ∗ pW m c 7)) := wp_wUse m K c 7
  have e0 : sl (7 + 1) = 0 := rfl
  have e1 : sl 7 = 1 := rfl
  unfold SP
  rw [e0, e1]
  refine BIBase.Entails.trans ?_ (wp_fupd _ _ _ _ _)
  unfold WP at h1
  iintro ⟨#Hc, HO, Hg, ⟨Hcr, Hat⟩, Hb, Hat', Hr'⟩
  iapply (wp_wand _ _ _) $$ [HO Hcr Hat Hg]
  · iapply h1
    isplitr; · iexact Hc
    isplitl [HO]; · iexact HO
    isplitl [Hcr]; · iexact Hcr
    isplitl [Hat] <;> iassumption
  iintro %a ⟨%ha, HO, Hg, Hat, Hr, Hb', Hw⟩
  imod (close m K c (wd 1) 4 (le_refl 4)) $$ [Hat] with Hz
  · isplitr; · iexact Hc
    iexact Hat
  imod (close m K c (wd 0) 4 (le_refl 4)) $$ [Hat'] with Hz'
  · isplitr; · iexact Hc
    iexact Hat'
  imodintro
  isplitr; · ipureintro; exact ha.trans (yAt_eq m c).symm
  isplitl [HO]; · iexact HO
  isplitl [Hg]; · iexact Hg
  isplitl [Hb Hb']
  · isplitl [Hb] <;> iassumption
  isplitl [Hz Hz']
  · isplitl [Hz'] <;> iassumption
  iexact Hw

end Cert.KernelIdeal.A2A

end
-- ==== Proof.Maxima.lean ====
module

public import proofs.«01_k».proof.Proof.Waits

/-! # The maxima

A device writes its local maximum, sends it to the others, and in the end quantises by the whole table. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem read_table (f : (cc0_scratch2 : Ref sig .tc).ty.Contents (Elt F)) :
    aM.view.readAt (Elt F) (Rect.unit (s := S32x8x128) ![0, 0, 0] S32x8x128.size inb_S32x8x128_S32x8x128_0_0_0).toLoadRect f = f :=
  Memref.readAt_unit_zero (Elt F) cc0_scratch2 (show ![0, 0, 0] = fun _ => 0 by decide) _ f
theorem write_result (f w : (cc0_stg1_0 : Ref sig .tc).ty.Contents (Elt F)) :
    (oM.access (Rect.unit (s := S128x2048) ![0, 0] S128x2048.size inb_S128x2048_S128x2048_0_0)).write (Elt F) f w Finset.univ = w :=
  Memref.write_access_unit_zero_univ (Elt F) cc0_stg1_0 (show ![0, 0] = fun _ => 0 by decide) _ f w

theorem outAt_eq (c : Dev nD) : k0_pay1 (yAt m c) (AM m) = outAt m c :=
  congrArg (k0_pay1 (yAt m c)) (Memref.readAt_unit_zero (Elt F) cc0_scratch2 (show ![0, 0, 0] = fun _ => 0 by decide) _ (AM m)).symm

attribute [local irreducible] xs ws XG WB xc wc acc yAt AM outAt amaxOf mac

/-- The device's whole table of maxima. -/
def table (c : Dev nD) (f : (cc0_scratch2 : Ref sig .tc).ty.Contents (Elt F)) : sProp 𝕄 :=
  ((c : Thread nD τ).loc cc0_scratch2) ↦{fullShare} f
/-- The device's result. -/
def result (c : Dev nD) (f : (cc0_stg1_0 : Ref sig .tc).ty.Contents (Elt F)) : sProp 𝕄 :=
  ((c : Thread nD τ).loc cc0_stg1_0) ↦{fullShare} f

/-! ## The device's own row -/

theorem own_pA (c : Dev nD) (f : (cc0_scratch2 : Ref sig .tc).ty.Contents (Elt F)) :
    pA c c fullShare ((aBlk c).view.write (Elt F) f (amaxOf (yAt m c)) Finset.univ) ⊢ pA c c fullShare (AM m) := by
  unfold pA
  rw [pointsTo_congr (own_a m c f)]

theorem own_pA' (c : Dev nD) (f : (cc0_scratch2 : Ref sig .tc).ty.Contents (Elt F)) :
    ((aM.access (aRect c)).loc (c : Thread nD τ) ↦[(aBlk c).view.set]{fullShare} (aM.access (aRect c)).write (Elt F) f (amaxOf (yAt m c)) Finset.univ)
      ⊢ ((aBlk c).view.loc (c : Thread nD τ) ↦[(aBlk c).view.set]{fullShare} AM m : sProp 𝕄) := own_pA m c f

/-- The writing of a row, at any offset. -/
def maxAt (o : Fin 3 → ℕ) (h : ∀ a, o a + S1x8x128.size a ≤ S32x8x128.size a) (y : FVec F S128x2048 .f32) : KProg F PUnit :=
  Prog.lift (.load aM (Rect.unit (s := S32x8x128) o S1x8x128.size h).toLoadRect (View.loadsAt_vmem h_S1x8x128)) >>= fun _ =>
  Prog.lift (.store aM (Rect.unit (s := S32x8x128) o S1x8x128.size h) (amaxOf y) Finset.univ
    (View.stores_vmem_bits_univ h_S1x8x128 rfl) (.inl rfl))

theorem wp_maxAt (c : Dev nD) (o : Fin 3 → ℕ) (h) (e : o = ![c.val, 0, 0]) :
    (iprop(∃ f, pA c c fullShare f) : sProp 𝕄) ⊢ WP (F := F) c (maxAt o h (yAt m c)) (fun _ => pA c c fullShare (AM m)) := by
  subst e
  unfold maxAt WP
  iintro ⟨%f, Ha⟩
  unfold pA
  iapply (wp_load_rect 𝒱₀ (c : Thread nD τ) none Set.univ (m := aM) (r := aRect c) (Finset.Subset.refl _)) $$ Ha; iintro Ha
  iapply (wp_store 𝒱₀ (c : Thread nD τ) none Set.univ (m := aM) (r := aRect c) (Mk := Finset.univ) (S := (aBlk c).view.set) (Finset.Subset.refl _)) $$ Ha; iintro Ha
  rw [wp_ret]; imodintro
  iapply (own_pA' m c f) $$ Ha

theorem wp_maxStep (c : Dev nD) :
    (iprop(∃ f, pA c c fullShare f) : sProp 𝕄) ⊢ WP (F := F) c (maxStep aM c (yAt m c)) (fun _ => pA c c fullShare (AM m)) :=
  wp_maxAt m c (k0_off5 c) (k0_off5_inb c) (k0_off5_eq c)

/-! ## Sending it -/

variable (K : Dev nD × Cell → ℕ)

theorem OA_step (c : Dev nD) (k : Fin 31) : OA c k.val = OA c (k.val + 1) + tallyAt (cl (fwd c k) (ch 3 k)) () NA := by
  unfold OA
  exact dueFrom_step _ k

theorem payload_recvA (c : Dev nD) (k : Fin 31) : (Rd (F := F) m).payload (cl (fwd c k) (ch 3 k)) 0 0 = pA (fwd c k) c fullShare (AM m) := by
  rw [Rd_payload]
  show pA (fwd c k) (fwd (fwd c k) k.rev) _ _ = _
  rw [fwd_rev]

/-- One transfer of a row, its two ends named apart from the program's text. -/
theorem wp_aSend (c : Dev nD) (k : Fin 31) (src : Memref sig .tc .vmem S1x8x128 .f32) (dst : Memref sig (Dev.tc (fwd c k) : Thread nD τ).2.kind .vmem S1x8x128 .f32)
    (hs : src = aBlk c) (hd : dst = aBlk c) {hsc : dst.view.ref.isScScratch = false}
    {hsrc : src.view.WordExact} {hdst : dst.view.WordExact}
    {hsem : DmaTarget.Typed .vmem (.dma (sem31 cc0_scratch6 k)) (.remote (Dev.tc (fwd c k) : Thread nD τ) dst (.dma (sem31 cc0_scratch5 k)) hsc)} :
    iprop(ctx m K ∗ own c (OA c k.val) ∗ (pA c c (shr k) (AM m) ∗ (∃ f, pA (fwd c k) c fullShare f) ∗ dutyTok ER (cl c (ch 2 k)) 0 0 ∗ dutyTok ER (cl (fwd c k) (ch 3 k)) 0 0))
      ⊢ WP (F := F) c (.op (.enqueueDma src (.remote (Dev.tc (fwd c k) : Thread nD τ) dst (.dma (sem31 cc0_scratch5 k)) hsc) (.dma (sem31 cc0_scratch6 k)) hsrc hdst hsem) .ret)
          (fun a => iprop(⌜a = ⟨⟩⌝ ∗ own c (OA c (k.val + 1)) ∗ cred (tallyAt (cl c (ch 2 k)) () NA))) := by
  subst hs hd
  unfold own WP
  iintro ⟨#Hc, ⟨%W, HO⟩, Hx, ⟨%f, Hg⟩, Ht, Ht'⟩
  ihave #Hi := (ctx_inv m K c (ch 2 k)) $$ Hc
  icases Hi with ⟨#Hi, #Hr⟩
  ihave #Hi' := (ctx_inv m K (fwd c k) (ch 3 k)) $$ Hc
  icases Hi' with ⟨#Hi', #Hr'⟩
  unfold pA
  iapply (Rounds.wp_send_pointsTo 𝒱₀ ER (Rd m) (c : Thread nD τ) none (κ₁ := K (c, ch 2 k)) (κ₂ := K (fwd c k, ch 3 k))
      (r₁ := 0) (r₂ := 0) (d₁ := 0) (d₂ := 0) (fd := f)
      (by rw [Rd_duties m c (ch 2 k) 0]; exact Finset.mem_singleton_self _) (by rw [Rd_duties m (fwd c k) (ch 3 k) 0]; exact Finset.mem_singleton_self _)
      () () NA (amount_aBlk c _) (Rd_amount m c (ch 2 k) 0 0) (Rd_amount m (fwd c k) (ch 3 k) 0 0) (O₀ := OA c k.val) (OA c (k.val + 1)) (OA_step c k) (W := W)
      (by rw [Rd_payload m c (ch 2 k) 0 0]; exact BI.Entails.refl _)
      (by rw [payload_recvA, pointsTo_congr (land_a m c f)]; exact BI.Entails.refl _)) $$ [HO Hx Hg Ht Ht']
  · isplitr; · iexact Hi
    isplitr; · iexact Hi'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hcr, HO⟩
  rw [wp_ret]; imodintro
  isplitr; · ipureintro; trivial
  isplitl [HO]; · iexists W; iexact HO
  iexact Hcr

theorem wp_aStep (c : Dev nD) (k : Fin 31) :
    iprop(ctx m K ∗ own c (OA c k.val) ∗ (pA c c (shr k) (AM m) ∗ (∃ f, pA (fwd c k) c fullShare f) ∗ dutyTok ER (cl c (ch 2 k)) 0 0 ∗ dutyTok ER (cl (fwd c k) (ch 3 k)) 0 0))
      ⊢ WP (F := F) c (aStep aM cc0_scratch5 cc0_scratch6 c k)
          (fun a => iprop(⌜a = ⟨⟩⌝ ∗ own c (OA c (k.val + 1)) ∗ cred (tallyAt (cl c (ch 2 k)) () NA))) :=
  wp_aSend m K c k (aRow aM c) (aRow aM c) (aRow_eq c) (aRow_eq c)

/-! ## The result -/

theorem wp_outStep (c : Dev nD) :
    iprop(table c (AM m) ∗ (∃ f, result c f)) ⊢ WP (F := F) c (outStep oM aM (yAt m c)) (fun _ => iprop(table c (AM m) ∗ result c (outAt m c))) := by
  unfold outStep WP table result
  iintro ⟨Ha, ⟨%f, Ho⟩⟩
  iapply (wp_load 𝒱₀ (c : Thread nD τ) none Set.univ (m := aM) (Finset.subset_univ _)) $$ Ha; iintro Ha
  rw [read_table]
  iapply (wp_load 𝒱₀ (c : Thread nD τ) none Set.univ (m := oM) (Finset.subset_univ _)) $$ Ho; iintro Ho
  iapply (wp_store 𝒱₀ (c : Thread nD τ) none Set.univ (m := oM) (r := Rect.unit (s := S128x2048) ![0, 0] S128x2048.size inb_S128x2048_S128x2048_0_0) (Mk := Finset.univ) (S := Finset.univ) (Finset.subset_univ _)) $$ Ho; iintro Ho
  rw [wp_ret, write_result, outAt_eq]
  imodintro
  isplitl [Ha] <;> iassumption

end Cert.KernelIdeal.A2A

end
-- ==== Proof.Body.lean ====
module

public import proofs.«01_k».proof.Proof.Product
public import proofs.«01_k».proof.Proof.Maxima

/-! # The body

The loops of the body one after another, from what a device starts with to what it ends with. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] xs ws XG WB xc wc acc yAt AM outAt amaxOf mac

/-! ## Families of resources -/

theorem zip4 (A B C D : Fin 31 → sProp 𝕄) :
    (bigSep Finset.univ fun k => iprop(A k ∗ B k ∗ C k ∗ D k))
      = iprop(bigSep Finset.univ A ∗ bigSep Finset.univ B ∗ bigSep Finset.univ C ∗ bigSep Finset.univ D) := by
  rw [bigSep_sep', bigSep_sep', bigSep_sep']

theorem bigSep_last {n : ℕ} (X : Fin (n + 1) → sProp 𝕄) :
    bigSep Finset.univ X = iprop((bigSep Finset.univ fun i : Fin n => X i.castSucc) ∗ X (Fin.last n)) := by
  rw [Fin.univ_castSuccEmb, Finset.cons_eq_insert, bigSep_insert (by simp), bigSep_map]
  exact BI.Entails.antisymm BI.sep_comm BI.sep_comm

/-- A loop whose steps give nothing. -/
theorem wp_loopU (c : Dev nD) (I : sProp 𝕄) [BI.Persistent I] (n : ℕ) (f : Fin n → KProg F PUnit) (S : ℕ → sProp 𝕄) (X Y : Fin n → sProp 𝕄)
    (h : ∀ k : Fin n, iprop(I ∗ S k.val ∗ X k) ⊢ WP c (f k) (fun a => iprop(⌜a = ⟨⟩⌝ ∗ S (k.val + 1) ∗ Y k))) :
    iprop(I ∗ S 0 ∗ bigSep Finset.univ X) ⊢ WP c (loop n (fun k _ => f k) ⟨⟩) (fun _ => iprop(S n ∗ bigSep Finset.univ Y)) := by
  refine (wp_loop c I n (fun k _ => f k) (fun _ => ⟨⟩) S X Y h).trans (wp_mono _ _ _ (fun a => ?_))
  iintro ⟨-, H⟩
  iexact H

def toksB (c : Dev nD) : sProp 𝕄 := bigSep Finset.univ fun k : Fin 31 => dutyTok ER (cl (fwd c k) bar) 0 k
/-- The tokens of a device's own semaphores of kind `i`, -/
def toksS (i : Fin 4) (c : Dev nD) : sProp 𝕄 := bigSep Finset.univ fun k : Fin 31 => dutyTok ER (cl c (ch i k)) 0 0
/-- and of the others' of kind `i`. -/
def toksR (i : Fin 4) (c : Dev nD) : sProp 𝕄 := bigSep Finset.univ fun k : Fin 31 => dutyTok ER (cl (fwd c k) (ch i k)) 0 0
def toksW (c : Dev nD) : sProp 𝕄 := bigSep Finset.univ fun j : Fin 8 => dutyTok ER (cl c (wd (sl j.val))) (j.val / 2) 0
def posS (i : Fin 4) (c : Dev nD) : sProp 𝕄 := bigSep Finset.univ fun k : Fin 31 => atPos ER (cl c (ch i k)) 0 ∅ 0
def credS (i : Fin 4) (n : ℕ) (c : Dev nD) : sProp 𝕄 := bigSep Finset.univ fun k : Fin 31 => cred (tallyAt (cl c (ch i k)) () n)
def zeroS (i : Fin 4) (c : Dev nD) : sProp 𝕄 := bigSep Finset.univ fun k : Fin 31 => semVal (cl c (ch i k)) 0

theorem toksW_eq (c : Dev nD) : (toksW c : sProp 𝕄) = iprop(dutyTok ER (cl c (wd 0)) 0 0
    ∗ bigSep Finset.univ fun j : Fin 7 => dutyTok ER (cl c (wd (sl (j.val + 1)))) ((j.val + 1) / 2) 0) := bigSep_succ _

/-! ## Lending and gathering -/

theorem some_g (c : Dev nD) (f : (cc0_scratch0 : Ref sig .tc).ty.Contents (Elt F)) :
    (bigSep Finset.univ fun k : Fin 31 => pG c (fwd c k) f) ⊢ (bigSep Finset.univ fun k : Fin 31 => iprop(∃ f, pG c (fwd c k) f) : sProp 𝕄) :=
  bigSep_mono fun k _ => (show (pG c (fwd c k) f : sProp 𝕄) ⊢ iprop(∃ f, pG c (fwd c k) f) by iintro H; iexists f; iexact H)
theorem some_a (c : Dev nD) (f : (cc0_scratch2 : Ref sig .tc).ty.Contents (Elt F)) :
    (bigSep Finset.univ fun k : Fin 31 => pA c (fwd c k) fullShare f) ⊢ (bigSep Finset.univ fun k : Fin 31 => iprop(∃ f, pA c (fwd c k) fullShare f) : sProp 𝕄) :=
  bigSep_mono fun k _ => (show (pA c (fwd c k) fullShare f : sProp 𝕄) ⊢ iprop(∃ f, pA c (fwd c k) fullShare f) by iintro H; iexists f; iexact H)

theorem lend_out (c : Dev nD) : iprop((∃ f, gath c f) ∗ (∃ f, table c f))
    ⊢ (iprop((∃ f, pG c c f) ∗ (∃ f, pA c c fullShare f) ∗ bigSep Finset.univ fun k : Fin 31 => lend c (fwd c k)) : sProp 𝕄) := by
  unfold gath table lend
  rw [bigSep_sep']
  iintro ⟨⟨%f, Hg⟩, ⟨%a, Ha⟩⟩
  ihave Hg' := (BIBase.Entails.of_eq (g_blocks c f)) $$ Hg
  ihave Ha' := (BIBase.Entails.of_eq (a_blocks c a)) $$ Ha
  icases Hg' with ⟨Hg0, Hg⟩
  icases Ha' with ⟨Ha0, Ha⟩
  isplitl [Hg0]; · iexists f; iexact Hg0
  isplitl [Ha0]; · iexists a; iexact Ha0
  isplitl [Hg]
  · iapply (some_g c f) $$ Hg
  · iapply (some_a c a) $$ Ha

theorem lent (c : Dev nD) : (bigSep Finset.univ fun k : Fin 31 => lend (fwd c k) c)
    ⊢ (iprop((bigSep Finset.univ fun k : Fin 31 => iprop(∃ f, pG (fwd c k) c f)) ∗ bigSep Finset.univ fun k : Fin 31 => iprop(∃ f, pA (fwd c k) c fullShare f)) : sProp 𝕄) := by
  unfold lend
  rw [bigSep_sep']

theorem gather_g (c : Dev nD) : iprop(pG c c (XG m c) ∗ bigSep Finset.univ fun k : Fin 31 => pG c (fwd c k.rev) (XG m c)) ⊢ gath c (XG m c) := by
  unfold gath
  rw [g_blocks, rev_all fun k => pG c (fwd c k) (XG m c)]

theorem gather_a (c : Dev nD) : iprop((pA c c shr₀ (AM m) ∗ bigSep Finset.univ fun k : Fin 31 => pA c c (shr k) (AM m))
    ∗ bigSep Finset.univ fun k : Fin 31 => pA c (fwd c k.rev) fullShare (AM m)) ⊢ table c (AM m) := by
  unfold table
  rw [a_blocks, rev_all fun k => pA c (fwd c k) fullShare (AM m), a_shares]

/-! ## The loops -/

variable (K : Dev nD × Cell → ℕ)

theorem OB_end (c : Dev nD) : OB c 31 = OX c 0 := by unfold OB OX; rw [dueFrom_end, add_zero]
theorem OX_end (c : Dev nD) : OX c 31 = OA c 0 := by unfold OX OA; rw [dueFrom_end, add_zero]
theorem OA_end (c : Dev nD) : OA c 31 = 0 := by unfold OA; rw [dueFrom_end]

theorem loop_sig (c : Dev nD) :
    iprop(ctx m K ∗ own c (OB c 0) ∗ toksB c ∗ bigSep Finset.univ fun k : Fin 31 => lend c (fwd c k))
      ⊢ WP (F := F) c (loop 31 (fun k _ => sigStep c k) ⟨⟩) (fun _ => own c (OX c 0)) := by
  have h := wp_loopU c (ctx m K) 31 (fun k => sigStep c k) (fun k => own c (OB c k)) _ _ (fun k => wp_sigStep m K c k)
  rw [OB_end, bigSep_sep'] at h
  refine h.trans (wp_mono _ _ _ (fun a => ?_))
  iintro ⟨H, -⟩
  iexact H

theorem loop_x (c : Dev nD) :
    iprop(ctx m K ∗ own c (OX c 0) ∗ (bigSep Finset.univ fun k : Fin 31 => pX m c (fwd c k)) ∗ (bigSep Finset.univ fun k : Fin 31 => iprop(∃ f, pG (fwd c k) c f))
        ∗ toksS 0 c ∗ toksR 1 c)
      ⊢ WP (F := F) c (loop 31 (fun k _ => xStep xM gM cc0_scratch3 cc0_scratch4 c k) ⟨⟩) (fun _ => iprop(own c (OA c 0) ∗ credS 0 NX c)) := by
  have h := wp_loopU c (ctx m K) 31 (fun k => xStep xM gM cc0_scratch3 cc0_scratch4 c k) (fun k => own c (OX c k)) _ _ (fun k => wp_xStep m K c k)
  rw [OX_end, zip4] at h
  exact h

theorem loop_xWait (c : Dev nD) :
    iprop(ctx m K ∗ own c (OA c 0) ∗ credS 0 NX c ∗ posS 0 c ∗ credS 1 NX c ∗ posS 1 c)
      ⊢ WP (F := F) c (loop 31 (fun k _ => xWait xM gM cc0_scratch3 cc0_scratch4 c k) ⟨⟩)
          (fun _ => iprop(own c (OA c 0) ∗ (bigSep Finset.univ fun k : Fin 31 => pX m c (fwd c k)) ∗ zeroS 0 c
            ∗ (bigSep Finset.univ fun k : Fin 31 => pG c (fwd c k.rev) (XG m c)) ∗ zeroS 1 c)) := by
  unfold credS posS zeroS
  have h := wp_loopU c (ctx m K) 31 (fun k => xWait xM gM cc0_scratch3 cc0_scratch4 c k) (fun _ => own c (OA c 0)) _ _ (fun k => wp_xWait m K c k)
  refine BIBase.Entails.trans ?_ (h.trans (wp_mono _ _ _ (fun a => ?_)))
  · iintro ⟨#Hc, HO, H⟩
    isplitr; · iexact Hc
    isplitl [HO]; · iexact HO
    iapply (BIBase.Entails.of_eq (zip4 (fun k => cred (tallyAt (cl c (ch 0 k)) () NX)) (fun k => atPos ER (cl c (ch 0 k)) 0 ∅ 0)
      (fun k => cred (tallyAt (cl c (ch 1 k)) () NX)) (fun k => atPos ER (cl c (ch 1 k)) 0 ∅ 0)).symm) $$ H
  · iintro ⟨HO, H⟩
    isplitl [HO]; · iexact HO
    iapply (BIBase.Entails.of_eq (zip4 (fun k => pX m c (fwd c k)) (fun k => semVal (cl c (ch 0 k)) 0) (fun k => pG c (fwd c k.rev) (XG m c)) (fun k => semVal (cl c (ch 1 k)) 0))) $$ H

theorem loop_turn (c : Dev nD) :
    iprop(ctx m K ∗ SP m c 0 ∗ (bigSep Finset.univ fun j : Fin 7 => pW m c j.succ)
        ∗ bigSep Finset.univ fun j : Fin 7 => dutyTok ER (cl c (wd (sl (j.val + 1)))) ((j.val + 1) / 2) 0)
      ⊢ WP (F := F) c (loop 7 (fun j acc => wStep wM bM cc0_scratch7 j.succ >>= fun _ => wUse wM gM bM cc0_scratch7 j.castSucc acc) (k0_pay3 (F := F)))
          (fun a => iprop(⌜a = acc m c 7⌝ ∗ SP m c 7 ∗ bigSep Finset.univ fun j : Fin 7 => pW m c j.castSucc)) := by
  have h := wp_loop c (ctx m K) 7 (fun j acc => wStep wM bM cc0_scratch7 j.succ >>= fun _ => wUse wM gM bM cc0_scratch7 j.castSucc acc) (acc m c) (SP m c) _ _
    (fun k => wp_turn m K c k)
  rw [acc_zero, bigSep_sep'] at h
  exact h

theorem loop_a (c : Dev nD) :
    iprop(ctx m K ∗ own c (OA c 0) ∗ (bigSep Finset.univ fun k : Fin 31 => pA c c (shr k) (AM m)) ∗ (bigSep Finset.univ fun k : Fin 31 => iprop(∃ f, pA (fwd c k) c fullShare f))
        ∗ toksS 2 c ∗ toksR 3 c)
      ⊢ WP (F := F) c (loop 31 (fun k _ => aStep aM cc0_scratch5 cc0_scratch6 c k) ⟨⟩) (fun _ => iprop(own c 0 ∗ credS 2 NA c)) := by
  have h := wp_loopU c (ctx m K) 31 (fun k => aStep aM cc0_scratch5 cc0_scratch6 c k) (fun k => own c (OA c k)) _ _ (fun k => wp_aStep m K c k)
  rw [OA_end, zip4] at h
  exact h

theorem loop_aWait (c : Dev nD) :
    iprop(ctx m K ∗ own c 0 ∗ credS 2 NA c ∗ posS 2 c ∗ credS 3 NA c ∗ posS 3 c)
      ⊢ WP (F := F) c (loop 31 (fun k _ => aWait aM cc0_scratch5 cc0_scratch6 c k) ⟨⟩)
          (fun _ => iprop(own c 0 ∗ (bigSep Finset.univ fun k : Fin 31 => pA c c (shr k) (AM m)) ∗ zeroS 2 c
            ∗ (bigSep Finset.univ fun k : Fin 31 => pA c (fwd c k.rev) fullShare (AM m)) ∗ zeroS 3 c)) := by
  unfold credS posS zeroS
  have h := wp_loopU c (ctx m K) 31 (fun k => aWait aM cc0_scratch5 cc0_scratch6 c k) (fun _ => own c 0) _ _ (fun k => wp_aWait m K c k)
  refine BIBase.Entails.trans ?_ (h.trans (wp_mono _ _ _ (fun a => ?_)))
  · iintro ⟨#Hc, HO, H⟩
    isplitr; · iexact Hc
    isplitl [HO]; · iexact HO
    iapply (BIBase.Entails.of_eq (zip4 (fun k => cred (tallyAt (cl c (ch 2 k)) () NA)) (fun k => atPos ER (cl c (ch 2 k)) 0 ∅ 0)
      (fun k => cred (tallyAt (cl c (ch 3 k)) () NA)) (fun k => atPos ER (cl c (ch 3 k)) 0 ∅ 0)).symm) $$ H
  · iintro ⟨HO, H⟩
    isplitl [HO]; · iexact HO
    iapply (BIBase.Entails.of_eq (zip4 (fun k => pA c c (shr k) (AM m)) (fun k => semVal (cl c (ch 2 k)) 0) (fun k => pA c (fwd c k.rev) fullShare (AM m)) (fun k => semVal (cl c (ch 3 k)) 0))) $$ H

/-! ## The body -/

/-- The credits, positions and tokens a device starts from. -/
def gear (c : Dev nD) : sProp 𝕄 :=
  iprop((cred (tallyAt (cl c bar) () 31) ∗ atPos ER (cl c bar) 0 ∅ 0 ∗ toksB c)
    ∗ (credS 1 NX c ∗ posS 0 c ∗ posS 1 c ∗ toksS 0 c ∗ toksR 1 c)
    ∗ (credS 3 NA c ∗ posS 2 c ∗ posS 3 c ∗ toksS 2 c ∗ toksR 3 c)
    ∗ (atPos ER (cl c (wd 0)) 0 ∅ 0 ∗ atPos ER (cl c (wd 1)) 0 ∅ 0 ∗ toksW c))

/-- Every semaphore of a device, back at zero. -/
def zeros (c : Dev nD) : sProp 𝕄 :=
  iprop((zeroS 0 c ∗ zeroS 1 c ∗ zeroS 2 c ∗ zeroS 3 c) ∗ (semVal (cl c (wd 0)) 0 ∗ semVal (cl c (wd 1)) 0))

/-- The device's scratch buffers, whatever they hold. -/
def scratch (c : Dev nD) : sProp 𝕄 :=
  iprop((∃ f, gath c f) ∗ (∃ f : Buf (Elt F) ((c : Thread nD τ).loc cc0_scratch1), ((c : Thread nD τ).loc cc0_scratch1) ↦{fullShare} f) ∗ (∃ f, table c f))

def xWhole (c : Dev nD) : sProp 𝕄 := ((c : Thread nD τ).loc cc0_stg0_0) ↦{fullShare} xs m c
def wWhole (c : Dev nD) : sProp 𝕄 := ((c : Thread nD τ).loc main_arg1) ↦{fullShare} ws m c

/-- What a device ends with. -/
def done (c : Dev nD) : sProp 𝕄 :=
  iprop(own c 0 ∗ xWhole m c ∗ result c (outAt m c) ∗ scratch c ∗ zeros c ∗ semVal (cl c bar) 0 ∗ wWhole m c)

theorem wp_device (c : Dev nD) : (iprop(emp) : sProp 𝕄) ⊢ WP (F := F) c (Prog.lift .deviceId) (fun d => iprop(⌜d = c⌝)) := by
  unfold WP Prog.lift
  rw [wp_deviceId, wp_ret]
  iintro -
  imodintro
  ipureintro; rfl

set_option maxHeartbeats 1000000 in
/-- The body, from what a device starts with to what it ends with. -/
theorem wp_body (c : Dev nD) :
    iprop(ctx m K ∗ own c (OB c 0) ∗ gear c ∗ xWhole m c ∗ (∃ f, result c f) ∗ scratch c ∗ wWhole m c)
      ⊢ WP (F := F) c (loopBody xM wM oM gM bM aM cc0_scratch3 cc0_scratch4 cc0_scratch5 cc0_scratch6 cc0_scratch7) (fun _ => done m c) := by
  have hw0 : iprop(ctx m K ∗ (∃ f, pB c 0 f) ∗ reached ER (cl c (wd 0)) 0 ∗ pW m c 0 ∗ dutyTok ER (cl c (wd 0)) 0 0)
      ⊢ WP (F := F) c (wStep wM bM cc0_scratch7 0) (fun _ => cred (tallyAt (cl c (wd 0)) () NW)) := wp_wStep m K c 0
  have hS : (SP m c 0 : sProp 𝕄) = iprop(own c (OA c 0) ∗ gath c (XG m c) ∗ (cred (tallyAt (cl c (wd 0)) () NW) ∗ atPos ER (cl c (wd 0)) 0 ∅ 0)
    ∗ ((∃ f, pB c 1 f) ∗ atPos ER (cl c (wd 1)) 0 ∅ 0 ∗ reached ER (cl c (wd 1)) 0)) := rfl
  have hW : (wWhole m c : sProp 𝕄) = iprop(pW m c 0 ∗ bigSep Finset.univ fun j : Fin 7 => pW m c j.succ) := (w_blocks m c).trans (bigSep_succ _)
  have hW' : (wWhole m c : sProp 𝕄) = iprop((bigSep Finset.univ fun j : Fin 7 => pW m c j.castSucc) ∗ pW m c 7) := (w_blocks m c).trans (bigSep_last _)
  have hX : (xWhole m c : sProp 𝕄) = iprop(pX m c c ∗ bigSep Finset.univ fun k : Fin 31 => pX m c (fwd c k)) := x_blocks m c
  have hd := wp_device (F := F) c
  have h1 := loop_sig m K c
  have h2 := wp_barWait m K c
  have h3 := wp_ownStep m c
  have h4 := loop_x m K c
  have h5 := loop_xWait m K c
  have h6 := loop_turn m K c
  have h7 := wp_last m K c
  have h8 := wp_maxStep m c
  have h9 := loop_a m K c
  have h10 := loop_aWait m K c
  have h11 := wp_outStep m c
  unfold WP at *
  unfold loopBody
  unfold gear scratch
  iintro ⟨#Hc, HO, ⟨⟨HcB, HaB, HtB⟩, ⟨HcX, HpX, HpX', HtX, HtX'⟩, ⟨HcA, HpA, HpA', HtA, HtA'⟩, ⟨Hw0, Hw1, HtW⟩⟩, Hx, Hout, ⟨Hg, ⟨%fb, Hb⟩, Ha⟩, Hw⟩
  ihave Hl := (lend_out (F := F) c) $$ [Hg Ha]
  · isplitl [Hg] <;> iassumption
  icases Hl with ⟨Hg, Ha, Hl⟩
  ihave Hb' := (BIBase.Entails.of_eq (b_blocks c fb)) $$ Hb
  icases Hb' with ⟨Hb0, Hb1⟩
  ihave HtW' := (BIBase.Entails.of_eq (toksW_eq (F := F) c)) $$ HtW
  icases HtW' with ⟨HtW0, HtW⟩
  ihave Hw' := (BIBase.Entails.of_eq hW) $$ Hw
  icases Hw' with ⟨Hwh, Hwt⟩
  ihave Hx' := (BIBase.Entails.of_eq hX) $$ Hx
  icases Hx' with ⟨Hx0, Hx⟩
  rw [wp_bind]
  iapply (wp_wand _ _ _) $$ []
  · iapply hd
    iempintro
  iintro %d %hd'
  subst hd'
  rw [wp_bind]
  iapply (wp_wand _ _ _) $$ [HO HtB Hl]
  · iapply h1
    isplitr; · iexact Hc
    isplitl [HO]; · iexact HO
    isplitl [HtB] <;> iassumption
  iintro %_ HO
  rw [wp_bind]
  iapply (wp_wand _ _ _) $$ [HO HcB HaB]
  · iapply h2
    isplitr; · iexact Hc
    isplitl [HO]; · iexact HO
    isplitl [HcB] <;> iassumption
  iintro %_ ⟨HO, HzB, Hl⟩
  ihave Hl' := (lent (F := F) _) $$ Hl
  icases Hl' with ⟨HlG, HlA⟩
  rw [wp_bind]
  iapply (wp_wand _ _ _) $$ [Hx0 Hg]
  · iapply h3
    isplitl [Hx0] <;> iassumption
  iintro %_ ⟨Hx0, Hg⟩
  rw [wp_bind]
  iapply (wp_wand _ _ _) $$ [HO Hx HlG HtX HtX']
  · iapply h4
    isplitr; · iexact Hc
    isplitl [HO]; · iexact HO
    isplitl [Hx]; · iexact Hx
    isplitl [HlG]; · iexact HlG
    isplitl [HtX] <;> iassumption
  iintro %_ ⟨HO, HcX'⟩
  rw [wp_bind]
  iapply (wp_wand _ _ _) $$ [Hb0 Hwh HtW0]
  · iapply hw0
    isplitr; · iexact Hc
    isplitl [Hb0]; · iexists fb; iexact Hb0
    isplitr
    · ihave #Hi := (ctx_inv m K d (wd 0)) $$ Hc
      icases Hi with ⟨-, #Hr⟩
      iexact Hr
    isplitl [Hwh] <;> iassumption
  iintro %_ HcW
  rw [wp_bind]
  iapply (wp_wand _ _ _) $$ [HO HcX' HpX HcX HpX']
  · iapply h5
    isplitr; · iexact Hc
    isplitl [HO]; · iexact HO
    isplitl [HcX']; · iexact HcX'
    isplitl [HpX]; · iexact HpX
    isplitl [HcX] <;> iassumption
  iintro %_ ⟨HO, Hx, Hz0, HG, Hz1⟩
  ihave Hg' := (gather_g m d) $$ [Hg HG]
  · isplitl [Hg] <;> iassumption
  rw [wp_bind]
  iapply (wp_wand _ _ _) $$ [HO Hg' HcW Hw0 Hb1 Hw1 Hwt HtW]
  · iapply h6
    isplitr; · iexact Hc
    isplitr [Hwt HtW]
    · iapply (BIBase.Entails.of_eq hS.symm)
      isplitl [HO]; · iexact HO
      isplitl [Hg']; · iexact Hg'
      isplitl [HcW Hw0]
      · isplitl [HcW] <;> iassumption
      isplitl [Hb1]; · iexists fb; iexact Hb1
      isplitl [Hw1]; · iexact Hw1
      ihave #Hi := (ctx_inv m K d (wd 1)) $$ Hc
      icases Hi with ⟨-, #Hr⟩
      iexact Hr
    isplitl [Hwt] <;> iassumption
  iintro %a ⟨%ha, HS, Hwt⟩
  subst ha
  rw [wp_bind]
  iapply (wp_wand _ _ _) $$ [HS]
  · iapply h7
    isplitr; · iexact Hc
    iexact HS
  iintro %a ⟨%ha, HO, Hg, ⟨⟨%f0, Hb0⟩, ⟨%f1, Hb1⟩⟩, HzW, Hwl⟩
  subst ha
  rw [wp_bind]
  iapply (wp_wand _ _ _) $$ [Ha]
  · iapply h8
    iexact Ha
  iintro %_ Ha
  ihave Ha' := (BIBase.Entails.of_eq (a_shares d (AM m))) $$ Ha
  icases Ha' with ⟨Ha0, Has⟩
  rw [wp_bind]
  iapply (wp_wand _ _ _) $$ [HO Has HlA HtA HtA']
  · iapply h9
    isplitr; · iexact Hc
    isplitl [HO]; · iexact HO
    isplitl [Has]; · iexact Has
    isplitl [HlA]; · iexact HlA
    isplitl [HtA] <;> iassumption
  iintro %_ ⟨HO, HcA'⟩
  rw [wp_bind]
  iapply (wp_wand _ _ _) $$ [HO HcA' HpA HcA HpA']
  · iapply h10
    isplitr; · iexact Hc
    isplitl [HO]; · iexact HO
    isplitl [HcA']; · iexact HcA'
    isplitl [HpA]; · iexact HpA
    isplitl [HcA] <;> iassumption
  iintro %_ ⟨HO, Has, Hz2, HA, Hz3⟩
  ihave Ha := (gather_a m d) $$ [Ha0 Has HA]
  · isplitr [HA]
    · isplitl [Ha0] <;> iassumption
    iexact HA
  iapply (wp_wand _ _ _) $$ [Ha Hout]
  · iapply h11
    isplitl [Ha] <;> iassumption
  iintro %_ ⟨Ha, Hout⟩
  unfold done scratch zeros
  isplitl [HO]; · iexact HO
  isplitl [Hx0 Hx]
  · iapply (BIBase.Entails.of_eq hX.symm)
    isplitl [Hx0] <;> iassumption
  isplitl [Hout]; · iexact Hout
  isplitl [Hg Hb0 Hb1 Ha]
  · isplitl [Hg]; · iexists _; iexact Hg
    isplitl [Hb0 Hb1]
    · iapply (b_join d f0 f1)
      isplitl [Hb0] <;> iassumption
    iexists _; iexact Ha
  isplitl [Hz0 Hz1 Hz2 Hz3 HzW]
  · isplitr [HzW]
    · isplitl [Hz0]; · iexact Hz0
      isplitl [Hz1]; · iexact Hz1
      isplitl [Hz2] <;> iassumption
    iexact HzW
  isplitl [HzB]; · iexact HzB
  iapply (BIBase.Entails.of_eq hW'.symm)
  isplitl [Hwt] <;> iassumption

end Cert.KernelIdeal.A2A

end
-- ==== Proof.Start.lean ====
module

public import proofs.«01_k».proof.Proof.Body

/-! # What the devices start from

The launch mints a round counter for every semaphore and a token for every signal and arrival; here the tokens are
dealt to the devices that spend them, and the launch's credit is read off what every device owes. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] xs ws XG WB xc wc acc yAt AM outAt amaxOf mac

/-! ## Families over a device's semaphores -/

/-- A family over the kernel's own semaphores, kind by kind. -/
theorem own_split (X : Own → sProp 𝕄) : bigSep Finset.univ X
    = iprop(((bigSep Finset.univ fun k : Fin 31 => X (.inl (0, k))) ∗ (bigSep Finset.univ fun k : Fin 31 => X (.inl (1, k)))
        ∗ (bigSep Finset.univ fun k : Fin 31 => X (.inl (2, k))) ∗ (bigSep Finset.univ fun k : Fin 31 => X (.inl (3, k))))
      ∗ (X (.inr 0) ∗ X (.inr 1))) := by
  rw [BI.bigSep_univ_sum, BI.bigSep_univ_prod, BI.bigSep_fin_two,
    bigSep_univ_eq_bigSepL [0, 1, 2, 3] (by decide) (by decide) (fun a : Fin 4 => bigSep Finset.univ fun b : Fin 31 => X (.inl (a, b)))]
  rfl

/-- A family over all of them: the barrier's, then the others'. -/
theorem cell_split (X : Cell → sProp 𝕄) : bigSep Finset.univ X = iprop(X bar ∗ bigSep Finset.univ fun o : Own => X (.inr o)) := by
  rw [BI.bigSep_univ_sum, show (Finset.univ : Finset Unit) = {()} from rfl, bigSep_singleton]
  rfl

/-- Each device's `k`-th item handed to the device that has it `k` places ahead. -/
theorem handed (X : Dev nD → Fin 31 → sProp 𝕄) :
    (bigSep Finset.univ fun c : Dev nD => bigSep Finset.univ fun k : Fin 31 => X c k)
      = bigSep Finset.univ fun c : Dev nD => bigSep Finset.univ fun k : Fin 31 => X (fwd c k) k := by
  rw [← BI.bigSep_univ_prod (fun p : Dev nD × Fin 31 => X p.1 p.2), ← BI.bigSep_univ_prod (fun p : Dev nD × Fin 31 => X (fwd p.1 p.2) p.2),
    BI.bigSep_univ_equiv (⟨fun p => (fwd p.1 p.2, p.2), fun p => (fwd p.1 p.2.rev, p.2),
      fun p => Prod.ext (fwd_rev p.1 p.2) rfl, fun p => Prod.ext (fwd_rev' p.1 p.2) rfl⟩ : Dev nD × Fin 31 ≃ Dev nD × Fin 31)
      (fun p : Dev nD × Fin 31 => X p.1 p.2)]
  rfl

/-! ## What the launch mints -/

/-- Every semaphore of every device. -/
def allCells : Finset (GSem nD τ sig) := Finset.univ.map ⟨kcell, kcell_injective⟩

/-- The tokens of one device's semaphores: the barrier's, the channels', the two slots'. -/
abbrev Tok : Type := Fin 31 ⊕ (Fin 4 × Fin 31) ⊕ Fin 8

abbrev tokOf (p : Dev nD × Tok) : GSem nD τ sig × ℕ × Fin 31 := match p.2 with
  | .inl k => (cl p.1 bar, 0, k)
  | .inr (.inl ik) => (cl p.1 (ch ik.1 ik.2), 0, 0)
  | .inr (.inr j) => (cl p.1 (wd (sl j.val)), j.val / 2, 0)

theorem half_slot (j j' : Fin 8) (h : sl j.val = sl j'.val) (h' : j.val / 2 = j'.val / 2) : j = j' := by
  revert j j'; decide

theorem tokOf_injective : Function.Injective tokOf := by
  rintro ⟨c, t⟩ ⟨c', t'⟩ h
  have hg := congrArg (fun x : GSem nD τ sig × ℕ × Fin 31 => x.1) h
  have hr := congrArg (fun x : GSem nD τ sig × ℕ × Fin 31 => x.2) h
  rcases t with k | ⟨i, k⟩ | j <;> rcases t' with k' | ⟨i', k'⟩ | j'
  · have e := kcell_injective hg
    simp only [Prod.mk.injEq] at e hr
    rw [e.1, hr.2]
  all_goals try (have e := kcell_injective hg; simp only [Prod.mk.injEq, reduceCtorEq, and_false, Sum.inr.injEq, Sum.inl.injEq] at e; done)
  · have e := kcell_injective hg
    simp only [Prod.mk.injEq, Sum.inr.injEq, Sum.inl.injEq] at e
    rw [e.1, e.2.1, e.2.2]
  · have e := kcell_injective hg
    simp only [Prod.mk.injEq, Sum.inr.injEq] at e hr
    rw [e.1, half_slot j j' e.2 hr.1]

def allToks : Finset (GSem nD τ sig × ℕ × Fin 31) := Finset.univ.map ⟨tokOf, tokOf_injective⟩

/-- The tokens of device `c`'s own semaphores. -/
def minted (c : Dev nD) : sProp 𝕄 :=
  iprop((bigSep Finset.univ fun k : Fin 31 => dutyTok ER (cl c bar) 0 k) ∗ (toksS 0 c ∗ toksS 1 c ∗ toksS 2 c ∗ toksS 3 c) ∗ toksW c)

theorem minted_eq (c : Dev nD) :
    (bigSep Finset.univ fun t : Tok => dutyTok ER (tokOf (c, t)).1 (tokOf (c, t)).2.1 (tokOf (c, t)).2.2) = (minted c : sProp 𝕄) := by
  rw [BI.bigSep_univ_sum, BI.bigSep_univ_sum, BI.bigSep_univ_prod,
    bigSep_univ_eq_bigSepL [0, 1, 2, 3] (by decide) (by decide) (fun a : Fin 4 => bigSep Finset.univ fun b : Fin 31 => _)]
  rfl

/-- What the launch deals device `c` at first. -/
def G (c : Dev nD) : sProp 𝕄 :=
  iprop((bigSep Finset.univ fun x : Cell => roundState ER (Rd m) (cl c x) 0)
    ∗ (bigSep Finset.univ fun x : Cell => reached ER (cl c x) 0)
    ∗ (bigSep Finset.univ fun x : Cell => atPos ER (cl c x) 0 ∅ 0) ∗ minted c)

theorem over_cells (X : GSem nD τ sig → sProp 𝕄) :
    bigSep allCells X = bigSep Finset.univ fun c : Dev nD => bigSep Finset.univ fun x : Cell => X (cl c x) := by
  unfold allCells; rw [bigSep_map, BI.bigSep_univ_prod]; rfl

theorem over_toks : bigSep allToks (fun x => (dutyTok ER x.1 x.2.1 x.2.2 : sProp 𝕄)) = bigSep Finset.univ fun c : Dev nD => minted c := by
  unfold allToks; rw [bigSep_map, BI.bigSep_univ_prod]
  exact bigSep_congr fun c _ => minted_eq c

theorem mint : BI.own (ER (initOf allCells allToks)) ⊢ (|==> bigSep Finset.univ (G m) : sProp 𝕄) := by
  refine (Rounds.fund ER (Rd m) allCells allToks).trans (BI.bupd_mono ?_)
  rw [over_cells, over_cells, over_cells, over_toks]
  unfold G
  rw [bigSep_sep', bigSep_sep', bigSep_sep']
  exact BI.Entails.refl _

/-! ## Dealing -/

/-- What stays with device `c`: its places at its own semaphores, and the tokens it spends. -/
def keeps (c : Dev nD) : sProp 𝕄 :=
  iprop((bigSep Finset.univ fun x : Cell => atPos ER (cl c x) 0 ∅ 0)
    ∗ (toksB c ∗ (toksS 0 c ∗ toksR 1 c ∗ toksS 2 c ∗ toksR 3 c) ∗ toksW c))

theorem deal : (bigSep Finset.univ fun c : Dev nD => (minted c : sProp 𝕄))
    ⊢ bigSep Finset.univ fun c : Dev nD => iprop(toksB c ∗ (toksS 0 c ∗ toksR 1 c ∗ toksS 2 c ∗ toksR 3 c) ∗ toksW c) := by
  unfold minted
  rw [bigSep_sep', bigSep_sep', bigSep_sep', bigSep_sep', bigSep_sep', bigSep_sep', bigSep_sep', bigSep_sep', bigSep_sep', bigSep_sep',
    handed (fun c k => dutyTok ER (cl c bar) 0 k)]
  unfold toksS
  rw [handed (fun c k => dutyTok ER (cl c (ch 1 k)) 0 0), handed (fun c k => dutyTok ER (cl c (ch 3 k)) 0 0)]
  exact BIBase.Entails.of_eq rfl

theorem sems_zero (c : Dev nD) : iprop(Pipeline.ownSems0 (Ix := Unit) (Name := ℕ) (U := UU) (Lvl := ℕ) (Val := Elt F) (τ := τ) osem c ∗ unscopedSems0 c)
    = (bigSep Finset.univ fun x : Cell => semVal (cl c x) 0 : sProp 𝕄) := by
  have hu : (unscopedSems0 c : sProp 𝕄) = semVal (cl c bar) 0 := by
    unfold unscopedSems0; rw [bigSep_eq_bigSepL_of_eq [SemLoc.reg barS] (by decide) (by decide)]; rfl
  rw [cell_split, hu]
  exact BI.Entails.antisymm BI.sep_comm BI.sep_comm

/-- Every semaphore's counter goes into an invariant. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (Rd m) κ (cl c x)))
          ∗ (bigSep Finset.univ fun x : Cell => reached ER (cl c x) 0)
          ∗ (bigSep Finset.univ fun x : Cell => atPos ER (cl c x) 0 ∅ 0) ∗ minted c) := by
  have h : iprop((bigSep Finset.univ fun x : Cell => semVal (cl c x) 0) ∗ bigSep Finset.univ fun x : Cell => roundState ER (Rd m) (cl c x) 0)
      ⊢ (|={Set.univ}=> bigSep Finset.univ fun x : Cell => iprop(∃ κ : ℕ, cellInv ER (Rd m) κ (cl c x)) : sProp 𝕄) := by
    rw [← bigSep_sep']
    exact (bigSep_mono fun x _ => (Rounds.body_intro ER (Rd m) (cl c x)).trans inv_alloc).trans (bigSep_fupd _ _)
  rw [← sems_zero] at h
  unfold G
  iintro ⟨Ho, Hu, Hs, H⟩
  imod h $$ [Ho Hu Hs] with Hi
  · isplitl [Ho Hu]
    · isplitl [Ho] <;> iassumption
    iexact Hs
  imodintro
  isplitl [Hi] <;> iassumption

/-- The invariants of all the devices' semaphores, and that round 0 of each is reached. -/
def recs (K : Dev nD × Cell → ℕ) : sProp 𝕄 :=
  bigSep Finset.univ fun ck : Dev nD × Cell => iprop(cellInv ER (Rd m) (K ck) (kcell ck) ∗ reached ER (kcell ck) 0)

instance recs_persistent (K : Dev nD × Cell → ℕ) : BI.Persistent (recs (F := F) m K) := by unfold recs; infer_instance

/-- What each device has of it after the deal. -/
def G' (c : Dev nD) : sProp 𝕄 := iprop(∃ K, recs m K ∗ keeps c)

theorem G'_intro (K : Dev nD × Cell → ℕ) (c : Dev nD) : iprop(recs m K ∗ keeps c) ⊢ G' (F := F) m c := by
  unfold G'
  iintro H
  iexists K
  iexact H

theorem each_with {I : Type} [DecidableEq I] {S : Finset I} {R : sProp 𝕄} [BI.Persistent R] {X Y : I → sProp 𝕄}
    (h : ∀ i ∈ S, iprop(R ∗ X i) ⊢ Y i) : iprop(R ∗ bigSep S X) ⊢ bigSep S Y := by
  refine BIBase.Entails.trans (sep_mono_left (BI.bigSep_of_persistent S R)) ?_
  rw [← bigSep_sep']
  exact bigSep_mono h

theorem regroup :
    (bigSep Finset.univ fun c : Dev nD => iprop((bigSep Finset.univ fun x : Cell => iprop(∃ κ : ℕ, cellInv ER (Rd m) κ (cl c x)))
          ∗ (bigSep Finset.univ fun x : Cell => reached ER (cl c x) 0)
          ∗ (bigSep Finset.univ fun x : Cell => atPos ER (cl c x) 0 ∅ 0) ∗ minted c) : sProp 𝕄)
      ⊢ bigSep Finset.univ (G' m) := by
  have hk : iprop((bigSep Finset.univ fun c : Dev nD => bigSep Finset.univ fun x : Cell => atPos ER (cl c x) 0 ∅ 0)
      ∗ bigSep Finset.univ fun c : Dev nD => iprop(toksB c ∗ (toksS 0 c ∗ toksR 1 c ∗ toksS 2 c ∗ toksR 3 c) ∗ toksW c)) = (bigSep Finset.univ fun c => keeps c : sProp 𝕄) := by
    unfold keeps; exact (bigSep_sep' _ _ _).symm
  have hr (K : Dev nD × Cell → ℕ) : iprop((bigSep Finset.univ fun ck => cellInv ER (Rd m) (K ck) (kcell ck)) ∗ bigSep Finset.univ fun ck => reached ER (kcell ck) 0)
      = (recs m K : sProp 𝕄) := by unfold recs; exact (bigSep_sep' _ _ _).symm
  rw [bigSep_sep', bigSep_sep', bigSep_sep', ← BI.bigSep_univ_prod (fun ck : Dev nD × Cell => iprop(∃ κ : ℕ, cellInv ER (Rd m) κ (kcell ck))),
    ← BI.bigSep_univ_prod (fun ck : Dev nD × Cell => (reached ER (kcell ck) 0 : sProp 𝕄))]
  iintro ⟨Hi, #Hr, Ha, Ht⟩
  ihave Hi' := (BI.bigSep_exists_pi Finset.univ (fun (ck : Dev nD × Cell) (κ : ℕ) => (cellInv ER (Rd m) κ (kcell ck) : sProp 𝕄))) $$ Hi
  icases Hi' with ⟨%K, #Hi⟩
  ihave Ht' := (deal (F := F)) $$ Ht
  iapply (each_with (R := recs m K) fun c _ => G'_intro m K c)
  isplitr
  · iapply (BIBase.Entails.of_eq (hr K))
    isplitl <;> iassumption
  · iapply (BIBase.Entails.of_eq hk)
    isplitl [Ha] <;> iassumption

/-- All the devices' semaphores at once. -/
theorem deal_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The launch's credit -/

/-- A unit to the device `k` places ahead, from every device, is a unit to every device. -/
theorem cred_from (k : Fin 31) (x : Cell) (n : ℕ) (c : Dev nD) :
    (Pipeline.launchCred (fun d => tallyAt (cl (fwd d k) x) () n) c : sProp 𝕄) ⊢ cred (tallyAt (cl c x) () n) :=
  Pipeline.launchCred_tallyAt (csem x) (fun d => fwd d k) (fun d => fwd d k.rev) (fun c => fwd_rev' c k) (fun d => fwd_rev d k) () n c

theorem cred_all (x : Fin 31 → Cell) (n : ℕ) (c : Dev nD) :
    (Pipeline.launchCred (fun d => dueFrom (fun k => tallyAt (cl (fwd d k) (x k)) () n) 0) c : sProp 𝕄)
      ⊢ bigSep Finset.univ fun k : Fin 31 => cred (tallyAt (cl c (x k)) () n) := by
  simp only [dueFrom_zero]
  rw [Pipeline.launchCred_sum Finset.univ (fun (k : Fin 31) (d : Dev nD) => tallyAt (cl (fwd d k) (x k)) () n) c]
  exact bigSep_mono fun k _ => cred_from k (x k) n c

theorem tally_many (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- The 31 units at a device's barrier, as one credit. -/
theorem cred_bar (c : Dev nD) : (bigSep Finset.univ fun k : Fin 31 => cred (tallyAt (cl c bar) () 1)) = (cred (tallyAt (cl c bar) () 31) : sProp 𝕄) := by
  rw [← Pipeline.cred_finsetSum Finset.univ (fun _ : Fin 31 => (tallyAt (cl c bar) () 1 : CellTallies nD τ sig Unit)), Finset.sum_const, Finset.card_univ, Fintype.card_fin, tally_many]

theorem credits (c : Dev nD) :
    (Pipeline.launchCred (fun d => OB d 0) c : sProp 𝕄) ⊢ iprop(cred (tallyAt (cl c bar) () 31) ∗ credS 1 NX c ∗ credS 3 NA c) := by
  rw [show (fun d : Dev nD => OB d 0) = fun d => (dueFrom (owA d) 0 + dueFrom (owX d) 0) + dueFrom (owB d) 0 from rfl,
    Pipeline.launchCred_add, Pipeline.launchCred_add]
  have ha : (Pipeline.launchCred (fun d => dueFrom (owA d) 0) c : sProp 𝕄) ⊢ credS 3 NA c := cred_all (fun k => ch 3 k) NA c
  have hx : (Pipeline.launchCred (fun d => dueFrom (owX d) 0) c : sProp 𝕄) ⊢ credS 1 NX c := cred_all (fun k => ch 1 k) NX c
  have hb : (Pipeline.launchCred (fun d => dueFrom (owB d) 0) c : sProp 𝕄) ⊢ cred (tallyAt (cl c bar) () 31) :=
    (cred_all (fun _ => bar) 1 c).trans (BIBase.Entails.of_eq (cred_bar c))
  iintro ⟨⟨Ha, Hx⟩, Hb⟩
  isplitl [Hb]; · iapply hb $$ Hb
  isplitl [Hx]; · iapply hx $$ Hx
  iapply ha $$ Ha

end Cert.KernelIdeal.A2A

end
-- ==== Proof.Run.lean ====
module

public import proofs.«01_k».proof.Proof.Start
public import proofs.«01_k».proof.Proof.Gen.KernelIdeal.Points
public import Idealize.ShloMosaic.Lib.Pipeline.CollectiveSegs

/-! # The run

The launch of the one call on every device, from any memory with zero counters, to a state in which each device's result
is `outAt`, both arguments are as they were and every counter is zero again. -/

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

attribute [local irreducible] xs ws XG WB xc wc acc yAt AM outAt amaxOf mac

variable (ρ : Dev nD → PrngReg)

/-! ## What a device holds before and after its one point -/

/-- Before: its share of the deal, its credit, the levels, the whole second argument and the scratch. -/
def held (c : Dev nD) : sProp 𝕄 :=
  iprop(G' m c ∗ levAts L lv ∗ (cred (tallyAt (cl c bar) () 31) ∗ credS 1 NX c ∗ credS 3 NA c) ∗ wWhole m c)
def before (c : Dev nD) : sProp 𝕄 := iprop(held m c ∗ scratch c)
/-- After: the scratch, every semaphore at zero, the second argument. -/
def after (c : Dev nD) : sProp 𝕄 := iprop(scratch c ∗ zeros c ∗ semVal (cl c bar) 0 ∗ wWhole m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => before m c
    | ⟨_ + 1, _⟩ => after m c
  q _ := fullShare
  owed t := match t with
    | ⟨0, _⟩ => OB c 0
    | ⟨_ + 1, _⟩ => 0

/-! ## The point -/

/-- The pieces of the start, put together as the body takes them. -/
theorem gear_intro (c : Dev nD) (K : Dev nD × Cell → ℕ) :
    iprop((cred (tallyAt (cl c bar) () 31) ∗ credS 1 NX c ∗ credS 3 NA c) ∗ keeps c) ⊢ (gear c : sProp 𝕄) := by
  unfold keeps gear posS
  rw [cell_split (fun x : Cell => atPos ER (cl c x) 0 ∅ 0), own_split (fun o : Own => atPos ER (cl c (.inr o)) 0 ∅ 0)]
  iintro ⟨⟨Hb, Hx, Ha⟩, ⟨Pb, ⟨P0, P1, P2, P3⟩, Pw, Pw'⟩, Tb, ⟨T0, T1, T2, T3⟩, Tw⟩
  isplitl [Hb Pb Tb]
  · isplitl [Hb]; · iexact Hb
    isplitl [Pb] <;> iassumption
  isplitl [Hx P0 P1 T0 T1]
  · isplitl [Hx]; · iexact Hx
    isplitl [P0]; · iexact P0
    isplitl [P1]; · iexact P1
    isplitl [T0] <;> iassumption
  isplitl [Ha P2 P3 T2 T3]
  · isplitl [Ha]; · iexact Ha
    isplitl [P2]; · iexact P2
    isplitl [P3]; · iexact P3
    isplitl [T2] <;> iassumption
  isplitl [Pw]; · iexact Pw
  isplitl [Pw'] <;> iassumption

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem staged (c : Dev nD) (d) : (dats m ρ 0 c).before (0 : Fin 2) t0_0 d = xs m c := by
  unfold Dat.before; rw [if_pos (fetch0_0 t0_0)]; unfold xs; rfl

def pointPre (c : Dev nD) : sProp 𝕄 :=
  iprop(before m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def pointPost (c : Dev nD) : sProp 𝕄 :=
  iprop(after m c ∗ (dats m ρ 0 c).owesAt () t0_0.succ ∗ stg c cc0_stg0_0 (xs m c) ∗ stg c cc0_stg1_0 (outAt m c))

theorem point_done (c : Dev nD) : done m c ⊢ pointPost m ρ c := by
  unfold done pointPost after own xWhole result Dat.owesAt Pipeline.owesWithin
  rw [show (dats m ρ 0 c).owed t0_0.succ = 0 from rfl]
  iintro ⟨⟨%W, HO⟩, Hx, Ho, Hs, Hz, Hb, Hw⟩
  isplitl [Hs Hz Hb Hw]
  · isplitl [Hs]; · iexact Hs
    isplitl [Hz]; · iexact Hz
    isplitl [Hb] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem point (c : Dev nD) : pointPre m ρ c
    ⊢ WP (F := F) c (loopBody xM wM oM gM bM aM cc0_scratch3 cc0_scratch4 cc0_scratch5 cc0_scratch6 cc0_scratch7) (fun _ => pointPost m ρ c) := by
  unfold pointPre before held G' Dat.owesAt Pipeline.owesWithin
  simp only [staged]
  rw [show (dats m ρ 0 c).owed t0_0.castSucc = OB c 0 from rfl]
  iintro ⟨⟨⟨⟨%K, #Hr, Hk⟩, #Hl, Hc, Hw⟩, Hs⟩, ⟨%W, %hW, HO⟩, ⟨%d, %g, %hg, Hx⟩, ⟨%d', %o, %ho, Ho⟩⟩
  subst hg
  ihave Hg := (gear_intro c K) $$ [Hc Hk]
  · isplitl [Hc] <;> iassumption
  iapply ((wp_body m K c).trans (wp_mono _ _ _ fun _ => point_done m ρ c))
  isplitr
  · unfold ctx recs
    isplitl <;> iassumption
  isplitl [HO]; · unfold own; iexists W; iexact HO
  isplitl [Hg]; · iexact Hg
  isplitl [Hx]; · unfold xWhole; iexact Hx
  isplitl [Ho]; · iexists o; unfold result; iexact Ho
  isplitl [Hs] <;> iassumption

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_stg]
  show pointPre m ρ c ⊢ wp frame (wpE (defs₀ (F := F)) 𝒱₀ c none) Set.univ (bodyAt0 t0_0) (fun _ => pointPost m ρ c)
  unfold bodyAt0
  rw [body_eq]
  exact point m ρ c

/-! ## Side conditions of the launch -/

theorem ownSemFacts : Pipeline.OwnSemFacts cfg0.spec osem where
  isScoped := by decide +kernel
  inj := fun o o' h => Sum.inr_injective (csem_injective (show csem (.inr o) = csem (.inr o') from h))
  disj := by decide +kernel

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => OB d 0) c ∗ prngReg c (ρ c) ∗ G' m c)
      ⊢ |={Set.univ}=> iprop(held m c ∗ emp) := by
  rw [Pipeline.unscopedRestP_none, unscopedRest0_eq]
  have hw : (((c : Thread nD τ).loc main_arg1) ↦{fullShare} m ((c : Thread nD τ).loc main_arg1) : sProp 𝕄) = wWhole m c := by unfold wWhole ws; rfl
  rw [hw]
  iintro ⟨Hw, Hl, Hc, -, HG⟩
  ihave Hc' := (credits c) $$ Hc
  imodintro
  unfold held
  isplitl
  · isplitl [HG]; · iexact HG
    isplitl [Hl]; · iexact Hl
    isplitl [Hc'] <;> iassumption
  · iempintro

theorem scratch_eq (c : Dev nD) : (Pipeline.scopedRest cfg0.spec c : sProp 𝕄) = scratch c := by
  unfold scratch gath table
  exact scopedRest0_eq c

theorem enter (c : Dev nD) :
    iprop(held m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scratch_eq]
  unfold before
  iintro ⟨H, -, Hs⟩
  isplitl [H] <;> iassumption

/-- What the device hands back beside its windows: the barrier's counter and the second argument. -/
def ends (c : Dev nD) : sProp 𝕄 := iprop(unscopedSems0 c ∗ wWhole m c)

theorem leave (c : Dev nD) :
    (dats m ρ 0 c).Φ (Fin.last cfg0.N) ⊢ iprop(ends m c ∗ Pipeline.ownSems0 osem c ∗ Pipeline.scopedRest cfg0.spec c) := by
  have ho : (Pipeline.ownSems0 (Ix := Unit) (Name := ℕ) (U := UU) (Lvl := ℕ) (Val := Elt F) (τ := τ) osem c : sProp 𝕄) = zeros c := by
    unfold zeros zeroS
    exact own_split (fun o : Own => semVal (cl c (.inr o)) 0)
  have hu : (unscopedSems0 c : sProp 𝕄) = semVal (cl c bar) 0 := by
    unfold unscopedSems0; rw [bigSep_eq_bigSepL_of_eq [SemLoc.reg barS] (by decide) (by decide)]; rfl
  rw [show (dats m ρ 0 c).Φ (Fin.last cfg0.N) = after m c from rfl, scratch_eq, ho]
  unfold after ends
  rw [hu]
  iintro ⟨Hs, Hz, Hb, Hw⟩
  isplitl [Hb Hw]
  · isplitl [Hb] <;> iassumption
  isplitl [Hz] <;> iassumption

theorem lv_stage (c : Dev nD) (w : Fin cfg0.W) (s) : lv ((c : Thread nD τ), .dma ((cfg0.win w).sem s)) () ≤ 0 := by
  have h : ∀ (w : Fin cfg0.W) (s), decode (.dma ((cfg0.win w).sem s)) = none := by decide +kernel
  unfold lv
  rw [h w s]

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (lv_stage c w s) (by
      rcases t with ⟨_ | _, ht⟩
      · exact above_OB c 0
      · exact Above.zero 0)

/-! ## The run -/

def u₀ : UU := (initOf (Pipeline.cells cfgs cellOf_inj) (Pipeline.launchToks cfgs cellOf_inj), initOf allCells allToks)

theorem read_ends (c : Dev nD) (s' : Phys nD τ sig (Elt F)) :
    iprop(ends m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ (SI s' : sProp 𝕄)) := by
  unfold ends wWhole
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro
    refine ⟨hu, (Buf.eq_of_forall_mem_univ hw).trans ?_⟩
    unfold ws; rfl
  iexact HSI

/-- What a window's array holds after the run. -/
def finalA (c : Dev nD) (w : Fin cfg0.W) : Buf (Elt F) ((cfg0.win w).arr.view.loc (c : Thread nD τ)) := (dats m ρ 0 c).arrAt w cfg0.N

set_option maxRecDepth 100000 in
theorem run_arrays : θ_run defs (onTc (τ := τ) (main (F := F))) (s₀ m ρ)
    (fun r => (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := fun d => OB d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal_all m)
    (hA := fun _ _ => rfl) (hpf := fun _ k => k.elim0)
    (X := held m) (Y := ends m) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_ends m)
    (hQ := fun _ h hs => ⟨fun c => ⟨fun w => (h c).1 w, (h c).2.2.2⟩, sem_eq_zero hs fun c => (h c).2.2.1⟩)

/-- The first argument's array holds what it held. -/
theorem finalA_arg0 (c : Dev nD) : finalA m ρ c (0 : Fin 2) = m ((c : Thread nD τ).loc main_arg0) :=
  (dats (F := F) m ρ 0 c).arrAt_in (0 : Fin 2) rfl _

/-- The run with the values dropped: the arguments as they were, every counter at zero. -/
theorem run_frame : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (0 : Fin 2)).trans (finalA_arg0 m ρ c), (h.1 c).2⟩, h.2⟩) (run_arrays m ρ)

end Cert.KernelIdeal.A2A

end
-- ==== Proof.Result.lean ====
module

public import proofs.«01_k».proof.Proof.Run
public import Idealize.ShloMosaic.Lib.Pipeline.ValueKit.Geometry

/-! # The kernel's run, with its result -/

@[expose] public section

noncomputable section

namespace Cert.KernelIdeal.A2A

open Cert.KernelIdeal Cert.KernelIdeal.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

attribute [local irreducible] xs ws XG WB xc wc acc yAt AM outAt amaxOf mac

/-- The call's one point writes the whole result. -/
theorem whole_result : win0_1.WholeAt t0_0 := by decide +kernel

/-- What a device's result array holds after the run. -/
theorem finalA_result (c : Dev nD) : finalA m ρ c (1 : Fin 2) = outAt m c := by
  refine (dats m ρ 0 c).arrAt_eq_of_after_last (1 : Fin 2) t0_0 whole_result _ fun j => ?_
  have h : (dats m ρ 0 c).after (1 : Fin 2) t0_0 = outAt m c := rfl
  rw [h]
  rfl

/-- The run: the result, and the arguments as they were. -/
theorem run_result : θ_run defs (onTc (τ := τ) (main (F := F))) (s₀ m ρ)
    (fun r => ∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 (1 : Fin 2)).trans (finalA_result m ρ c),
    ((h.1 c).1 (0 : Fin 2)).trans (finalA_arg0 m ρ c), (h.1 c).2⟩) (run_arrays m ρ)

end Cert.KernelIdeal.A2A

end
-- ==== Proof.Quant.lean ====
module

public import proofs.«01_k».proof.Proof.Gen.KernelIdeal.Skeleton
public import proofs.«01_k».proof.Proof.Loops
public import Idealize.ShloMosaic.PureOps.Ideal.Laws

/-! # The quantiser over the extended reals

The largest absolute value of an array, the scale it gives, and what dividing by that scale and multiplying
again leave of one element. -/

@[expose] public section

noncomputable section

namespace Cert.KernelIdeal.A2A

open Cert.KernelIdeal Cert.KernelIdeal.Gen

open Idealize.ShloMosaic

/-! ## Constants -/

theorem bits_top : Ideal.ofBits .f32 0x43E00000#32 = ((448 : ℝ) : EReal) := by
  simp [Ideal.ofBits, Ideal.ieee, -EReal.coe_mul]; norm_num
theorem bits_low : Ideal.ofBits .f32 0xC3E00000#32 = ((-448 : ℝ) : EReal) := by
  simp [Ideal.ofBits, Ideal.ieee, -EReal.coe_mul, -EReal.coe_neg]; norm_num
theorem bits_bot : Ideal.ofBits .f32 0xFF800000#32 = ⊥ := by
  simp [Ideal.ofBits, Ideal.ieee]

/-! ## One element -/

/-- The absolute value. -/
def mag (y : EReal) : EReal := max y (-y)

theorem mag_nonneg (y : EReal) : 0 ≤ mag y := by
  unfold mag
  rcases le_total 0 y with h | h
  · exact le_max_of_le_left h
  · exact le_max_of_le_right (EReal.neg_nonneg.mpr h)

/-- The scale for the largest absolute value `a`. -/
def scaleOf (a : EReal) : EReal := Ideal.div a ((448 : ℝ) : EReal)

/-- An element divided by the scale and multiplied by it again. -/
def requant (a y : EReal) : EReal := Ideal.div y (scaleOf a) * scaleOf a

/-- Clipping to the format's range. -/
def clip (z : EReal) : EReal := min ((448 : ℝ) : EReal) (max ((-448 : ℝ) : EReal) z)

theorem scaleOf_coe (r : ℝ) : scaleOf (r : EReal) = ((r / 448 : ℝ) : EReal) := by
  unfold scaleOf Ideal.div
  rw [if_neg (by norm_num), ← EReal.coe_inv, ← EReal.coe_mul, div_eq_mul_inv]

theorem scaleOf_top : scaleOf ⊤ = ⊤ := by
  unfold scaleOf Ideal.div
  rw [if_neg (by norm_num), ← EReal.coe_inv, EReal.top_mul_coe_of_pos (by norm_num)]

/-- Clipping between the division and the product changes nothing: an element is no larger than the largest;
    where every element is zero the product is zero either way, and where the largest is infinite every
    quotient is zero. -/
theorem clip_requant (a y : EReal) (h : mag y ≤ a) : clip (Ideal.div y (scaleOf a)) * scaleOf a = requant a y := by
  unfold requant
  have h0 : 0 ≤ a := (mag_nonneg y).trans h
  induction a using EReal.rec with
  | bot => exact absurd h0 (by simp)
  | top =>
    rw [scaleOf_top]
    have e : Ideal.div y ⊤ = 0 := by
      unfold Ideal.div
      rw [if_neg EReal.top_ne_zero, EReal.inv_top, mul_zero]
    have c : clip 0 = 0 := by
      unfold clip
      rw [max_eq_right (by exact_mod_cast (by norm_num : (-448 : ℝ) ≤ 0)), min_eq_right (by exact_mod_cast (by norm_num : (0 : ℝ) ≤ 448))]
    rw [e, c]
  | coe r =>
    rw [scaleOf_coe]
    have hr : 0 ≤ r := by exact_mod_cast h0
    rcases hr.eq_or_lt with rfl | hp
    · rw [zero_div, EReal.coe_zero, mul_zero, mul_zero]
    · have hy : y ≤ (r : EReal) := (le_max_left _ _).trans h
      have hy' : -y ≤ (r : EReal) := (le_max_right _ _).trans h
      induction y using EReal.rec with
      | bot => exact absurd hy' (by simp)
      | top => exact absurd hy (by simp)
      | coe x =>
        have hx : x ≤ r := by exact_mod_cast hy
        have hx' : -x ≤ r := by exact_mod_cast hy'
        have hs : 0 < r / 448 := by positivity
        have e : Ideal.div (x : EReal) ((r / 448 : ℝ) : EReal) = ((x / (r / 448) : ℝ) : EReal) := by
          unfold Ideal.div
          rw [if_neg (by exact_mod_cast hs.ne'), ← EReal.coe_inv, ← EReal.coe_mul, ← div_eq_mul_inv]
        have l1 : -448 ≤ x / (r / 448) := by rw [le_div_iff₀ hs]; linarith
        have l2 : x / (r / 448) ≤ 448 := by rw [div_le_iff₀ hs]; linarith
        have c : clip ((x / (r / 448) : ℝ) : EReal) = ((x / (r / 448) : ℝ) : EReal) := by
          unfold clip
          rw [max_eq_right (by exact_mod_cast l1), min_eq_right (by exact_mod_cast l2)]
        rw [e, c]

/-! ## The largest of an array -/

/-- A reduction with `maximum`, from −∞, to a shape with one index: the least upper bound of all. -/
theorem sup_of_fold {s t : Shape} (drop : s.Idx → t.Idx) (ht : ∀ b, t.size b = 1) (x : s.Idx → EReal) (j : t.Idx) :
    (Finset.univ.filter fun i => drop i = j).fold (FloatOps.maximumf (F := Ideal) (φ := .f32)) ⊥ x = Finset.univ.sup x := by
  rw [Finset.filter_true_of_mem fun i _ => funext fun b => Fin.ext (by
    have := (drop i b).isLt; have := (j b).isLt; have := ht b; omega)]
  rfl

theorem reduce_max {s t : Shape} {axes : List (Fin s.rank)} (x : FVec Ideal s .f32) (h : s.Reduces axes t)
    (ht : ∀ b, t.size b = 1) (hφ) (hacc) :
    multiReduction .maximumf axes t x 0xFF800000#32 h hφ hacc = fun _ => Finset.univ.sup x := funext fun j => by
  rw [multiReduction_maximumf_eq_fold]
  have e : FloatOps.ofBits (F := Ideal) .f32 0xFF800000#32 = ⊥ := bits_bot
  rw [e]
  exact sup_of_fold h.drop ht x j

/-- Reading an array under another shape doesn't change the least upper bound. -/
theorem sup_cast {s t : Shape} (x : s.Idx → EReal) (h : s.ShapeCasts t) : Finset.univ.sup (shapeCast t x h) = Finset.univ.sup x := by
  refine le_antisymm (Finset.sup_le fun i _ => Finset.le_sup (f := x) (Finset.mem_univ _)) (Finset.sup_le fun i _ => ?_)
  have e : shapeCast t x h ((Shape.reshapeEquiv h).symm i) = x i := congrArg x (Equiv.apply_symm_apply _ i)
  rw [← e]
  exact Finset.le_sup (f := shapeCast t x h) (Finset.mem_univ _)

/-- A number taken out of a one-element array and spread over a row of the table. -/
theorem spread_eq {v : FVec Ideal S1 .f32} {a : EReal} (h : v = fun _ => a) :
    shapeCast S1x8x128 (broadcast S1x8x128 (extractAt ![0, 0, 0] (shapeCast S1x1x1 v shapeCasts_S1_S1x1x1) inpos_S1x1x1_p0_0_0))
      shapeCasts_S1x8x128_S1x8x128 = fun _ => a := by
  subst h; rfl

/-- What a device writes in its row of the table: the largest absolute value of its block, everywhere. -/
theorem amaxOf_apply (y : FVec Ideal S128x2048 .f32) : amaxOf y = fun _ => Finset.univ.sup fun i => mag (y i) := by
  have hv := reduce_max (shapeCast S1x128x2048 (absf y) shapeCasts_S128x2048_S1x128x2048) reduces_S1x128x2048_S1 (by decide) (.inl rfl) rfl
  rw [sup_cast] at hv
  have hm : Finset.univ.sup (absf y : FVec Ideal S128x2048 .f32) = Finset.univ.sup fun i => mag (y i) := rfl
  rw [hm] at hv
  exact spread_eq hv

/-- The kernel's last step at one element. -/
theorem result_apply (y : FVec Ideal S128x2048 .f32) (t : Vec Ideal S32x8x128 .f32) (i : S128x2048.Idx) :
    k0_pay1 y t i = requant (Finset.univ.sup t) (y i) := by
  have hv := reduce_max (shapeCast S1x32x8x128 t shapeCasts_S32x8x128_S1x32x8x128) reduces_S1x32x8x128_S1 (by decide) (.inl rfl) rfl
  rw [sup_cast] at hv
  refine (congrArg (fun v : FVec Ideal S1 .f32 => Ideal.div (y i)
      (Ideal.div (extractAt ![0, 0, 0, 0] (shapeCast S1x1x1x1 v shapeCasts_S1_S1x1x1x1) inpos_S1x1x1x1_p0_0_0_0) (Ideal.ofBits .f32 0x43E00000#32))
    * Ideal.div (extractAt ![0, 0, 0, 0] (shapeCast S1x1x1x1 v shapeCasts_S1_S1x1x1x1) inpos_S1x1x1x1_p0_0_0_0) (Ideal.ofBits .f32 0x43E00000#32)) hv).trans ?_
  rw [bits_top]
  rfl

end Cert.KernelIdeal.A2A

end
-- ==== Proof.Rows.lean ====
module

public import proofs.«01_k».proof.Proof.Landing
public import proofs.«01_k».proof.Proof.Quant
public import Idealize.ShloMosaic.Lib.MatmulPlain
public import Idealize.ShloMosaic.Lib.Layout

/-! # A device's rows of the product

The eight sums a device adds, chunk after chunk, are its rows of the whole product. -/

@[expose] public section

noncomputable section

namespace Cert.KernelIdeal.A2A

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-- The product's dimension numbers are those of rows times columns. -/
theorem dot_plain : dot_S128x512_S512x2048_S128x2048_1_0_0_1_n_n = DotDims.plain 128 512 2048 := rfl

/-- One chunk's product added, at one element. -/
theorem mac_apply (a : FVec Ideal S128x2048 .f32) (x : Vec Ideal S128x512 .f32) (w : Vec Ideal S1x512x2048 .f32) (r : Fin 128) (l : Fin 2048) :
    mac a x w (ix2 r l) = a (ix2 r l) + ∑ k : Fin 512, x (ix2 r k) * w (ix3 0 k l) := by
  unfold mac
  show a (ix2 r l) + FloatOps.matmul _ _ _ _ _ (ix2 r l) = _
  rw [dot_plain, Ideal.matmul_plain_apply]
  have e : (constant S128x2048 .f32 0x00000000#32 : FVec Ideal S128x2048 .f32) (ix2 r l) = 0 := Ideal.ofBits_zero_f32
  rw [e, zero_add]
  refine congrArg (a (ix2 r l) + ·) (Finset.sum_congr rfl fun k _ => ?_)
  refine congrArg (x (ix2 r k) * ·) ?_
  refine (shapeCast_dropUnit_apply ![512, 2048] w (by decide) (ix2 k l)).trans (congrArg w ?_)
  funext a
  fin_cases a <;> rfl

theorem rowOf_lt (c : Dev nD) (r : Fin 128) : 128 * c.val + r.val < 4096 := by
  have h : c.val < 32 := c.isLt
  have h' := r.isLt
  omega

/-- The rows of `A` that are device `c`'s. -/
abbrev rowOf (c : Dev nD) (r : Fin 128) : Fin 4096 := ⟨128 * c.val + r.val, rowOf_lt c r⟩

/-- The whole `x` is cut into 32 blocks of columns. -/
theorem tiles_x : Layout.Tiles ⟨2, ![4096, 128]⟩ ⟨2, ![4096, 4096]⟩ 1 32 := by decide

variable (A : FVec Ideal ⟨2, ![4096, 4096]⟩ .f32) (B : FVec Ideal ⟨2, ![4096, 2048]⟩ .f32)

/-- The product's element. -/
def dotAt (i : Fin 4096) (l : Fin 2048) : EReal := ∑ k : Fin 4096, A (ix2 i k) * B (ix2 k l)

/-- Product number `k` of that sum, for any number. -/
def term (i : Fin 4096) (l : Fin 2048) (k : ℕ) : EReal := if h : k < 4096 then A (ix2 i ⟨k, h⟩) * B (ix2 ⟨k, h⟩ l) else 0

theorem sum_term (i : Fin 4096) (l : Fin 2048) : ∑ k ∈ Finset.range 4096, term A B i l k = dotAt A B i l := by
  rw [Finset.sum_range]
  refine Finset.sum_congr rfl fun k _ => ?_
  unfold term
  rw [dif_pos k.isLt]

variable (hA : ∀ c : Dev nD, m ((c : Thread nD τ).loc main_arg0) = Layout.block ⟨2, ![4096, 128]⟩ ⟨2, ![4096, 4096]⟩ 1 32 c A tiles_x)
variable (hB : ∀ c : Dev nD, m ((c : Thread nD τ).loc main_arg1) = B)

/-- The staged columns are the device's array. -/
theorem xs_apply (c : Dev nD) (j : S4096x128.Idx) : xs m c j = m ((c : Thread nD τ).loc main_arg0) j := by
  refine congrArg (m ((c : Thread nD τ).loc main_arg0)) (?_ : (win0_0.blk (0 : Fin 1)).view.emb j = j)
  funext a
  apply Fin.ext
  fin_cases a
  · show 0 * 4096 + 1 * (j 0).val = (j 0).val; omega
  · show 0 * 128 + 1 * (j 1).val = (j 1).val; omega

include hA in
/-- The gathered `x` is the device's rows of the whole one. -/
theorem XG_apply (c : Dev nD) (i : S128x4096.Idx) : XG m c i = A (ix2 (rowOf c (i 0)) (i 1)) := by
  have h1 : (i 1).val < 4096 := (i 1).isLt
  show xs m _ _ = _
  rw [xs_apply, hA, Layout.block_apply]
  refine congrArg A (funext fun a => Fin.ext ?_)
  fin_cases a
  · refine (Layout.Tiles.idx_val _ _ _ _).trans ?_
    show (if (0 : ℕ) = 1 then _ else 128 * c.val + (i 0).val) = 128 * c.val + (i 0).val
    rfl
  · refine (Layout.Tiles.idx_val _ _ _ _).trans ?_
    show (i 1).val / 128 * 128 + (i 1).val % 128 = (i 1).val
    omega

include hA in
theorem xc_apply (c : Dev nD) (j : Fin 8) (r : Fin 128) (k : Fin 512) (h : 512 * j.val + k.val < 4096) :
    xc m c j (ix2 r k) = A (ix2 (rowOf c r) ⟨512 * j.val + k.val, h⟩) := by
  refine (XG_apply m A hA c _).trans (congrArg A (funext fun a => Fin.ext ?_))
  fin_cases a
  · show 128 * c.val + (0 + 1 * r.val) = 128 * c.val + r.val; omega
  · show 512 * j.val + 1 * k.val = 512 * j.val + k.val; omega

include hB in
theorem wc_apply (c : Dev nD) (j : Fin 8) (k : Fin 512) (l : Fin 2048) (h : 512 * j.val + k.val < 4096) :
    wc m c j (ix3 0 k l) = B (ix2 ⟨512 * j.val + k.val, h⟩ l) := by
  refine (congrFun (hB c) _).trans (congrArg B (funext fun a => Fin.ext ?_))
  fin_cases a
  · show 512 * j.val + (0 + 1 * k.val) = 512 * j.val + k.val; omega
  · show 0 + 1 * l.val = l.val; omega

attribute [local irreducible] xs ws XG WB xc wc mac

include hA hB in
/-- After `n` chunks: the sum of the first `512 * n` products. -/
theorem acc_apply (c : Dev nD) (r : Fin 128) (l : Fin 2048) (n : ℕ) (hn : n ≤ 8) :
    acc m c n (ix2 r l) = ∑ k ∈ Finset.range (512 * n), term A B (rowOf c r) l k := by
  induction n with
  | zero => exact Ideal.ofBits_zero_f32
  | succ n ih =>
    have h : n < 8 := hn
    show (dite _ _ _ : FVec Ideal S128x2048 .f32) (ix2 r l) = _
    rw [dif_pos h, mac_apply, ih h.le, Nat.mul_succ, Finset.sum_range_add, Finset.sum_range (n := 512)]
    refine congrArg (_ + ·) (Finset.sum_congr rfl fun k _ => ?_)
    have hk : 512 * n + k.val < 4096 := by have := k.isLt; omega
    unfold term
    rw [dif_pos hk, xc_apply m A hA c ⟨n, h⟩ r k hk, wc_apply m B hB c ⟨n, h⟩ k l hk]

include hA hB in
/-- A device's block of the product is its rows of the whole product. -/
theorem yAt_apply (c : Dev nD) (i : S128x2048.Idx) : yAt m c i = dotAt A B (rowOf c (i 0)) (i 1) := by
  rw [eq_ix2 i]
  exact (acc_apply m A B hA hB c (i 0) (i 1) 8 (le_refl 8)).trans (sum_term A B _ _)

end Cert.KernelIdeal.A2A

end
-- ==== Proof.Table.lean ====
module

public import proofs.«01_k».proof.Proof.Maxima
public import proofs.«01_k».proof.Proof.Rows

/-! # The kernel's result

The table's largest entry is the largest absolute value of the whole product, so each device's result is its rows
of one array. -/

@[expose] public section

noncomputable section

namespace Cert.KernelIdeal.A2A

open Cert.KernelIdeal Cert.KernelIdeal.Gen

open Idealize.ShloMosaic
open Idealize.ShloMosaic.TcCoe
open Idealize.ShloMosaic.ValueIdx

variable (m : (ℓ : Loc nD τ sig) → Buf (Elt Ideal) ℓ)
variable (A : FVec Ideal ⟨2, ![4096, 4096]⟩ .f32) (B : FVec Ideal ⟨2, ![4096, 2048]⟩ .f32)
variable (hA : ∀ c : Dev nD, m ((c : Thread nD τ).loc main_arg0) = Layout.block ⟨2, ![4096, 128]⟩ ⟨2, ![4096, 4096]⟩ 1 32 c A tiles_x)
variable (hB : ∀ c : Dev nD, m ((c : Thread nD τ).loc main_arg1) = B)

/-- The largest absolute value of the whole product. -/
def largest : EReal := Finset.univ.sup fun j : (⟨2, ![4096, 2048]⟩ : Shape).Idx => mag (dotAt A B (j 0) (j 1))

/-- The product, quantised by its largest absolute value and read back. -/
def whole : FVec Ideal ⟨2, ![4096, 2048]⟩ .f32 := fun j => requant (largest A B) (dotAt A B (j 0) (j 1))

theorem le_largest (i : Fin 4096) (l : Fin 2048) : mag (dotAt A B i l) ≤ largest A B :=
  Finset.le_sup (f := fun j : (⟨2, ![4096, 2048]⟩ : Shape).Idx => mag (dotAt A B (j 0) (j 1))) (Finset.mem_univ (ix2 i l))

/-- An entry of the table: the largest absolute value of its row's device's block. -/
theorem AM_apply (i : S32x8x128.Idx) : AM m i = Finset.univ.sup fun j => mag (yAt m (i 0 : Fin 32) j) :=
  congrFun (amaxOf_apply (yAt m (i 0 : Fin 32))) _

/-- The whole result is cut into 32 blocks of rows. -/
theorem tiles_result : Layout.Tiles ⟨2, ![128, 2048]⟩ ⟨2, ![4096, 2048]⟩ 0 32 := by decide

attribute [local irreducible] yAt AM outAt amaxOf dotAt mag

include hA hB in
theorem sup_AM : @Finset.sup EReal S32x8x128.Idx _ _ Finset.univ (AM m) = largest A B := by
  refine le_antisymm (Finset.sup_le fun i _ => ?_) (Finset.sup_le fun j _ => ?_)
  · rw [AM_apply]
    refine Finset.sup_le fun j _ => ?_
    exact (congrArg mag (yAt_apply m A B hA hB (i 0 : Fin 32) j)).le.trans (le_largest A B _ _)
  · have h0 : (j 0).val < 4096 := (j 0).isLt
    have hc : (j 0).val / 128 < 32 := by omega
    have hr : (j 0).val % 128 < 128 := Nat.mod_lt _ (by decide)
    refine le_trans ?_ (@Finset.le_sup EReal S32x8x128.Idx _ _ _ (AM m) _ (Finset.mem_univ (ix3 (⟨(j 0).val / 128, hc⟩ : Fin 32) (0 : Fin 8) (0 : Fin 128))))
    rw [AM_apply]
    refine le_trans (le_of_eq ?_) (Finset.le_sup (f := fun i => mag (yAt m (⟨(j 0).val / 128, hc⟩ : Fin 32) i)) (Finset.mem_univ (ix2 (⟨(j 0).val % 128, hr⟩ : Fin 128) (j 1))))
    refine Eq.trans ?_ (congrArg mag (yAt_apply m A B hA hB (⟨(j 0).val / 128, hc⟩ : Fin 32) (ix2 (⟨(j 0).val % 128, hr⟩ : Fin 128) (j 1)))).symm
    refine congrArg (fun i => mag (dotAt A B i (j 1))) (Fin.ext ?_)
    show (j 0).val = 128 * ((j 0).val / 128) + (j 0).val % 128
    omega

include hA hB in
/-- Device `c`'s result is its rows of that array. -/
theorem outAt_block (c : Dev nD) : outAt m c = Layout.block ⟨2, ![128, 2048]⟩ ⟨2, ![4096, 2048]⟩ 0 32 c (whole A B) tiles_result := by
  rw [← outAt_eq]
  refine funext fun (i : S128x2048.Idx) => ?_
  rw [result_apply, sup_AM m A B hA hB, yAt_apply m A B hA hB, Layout.block_apply]
  refine congrArg (requant (largest A B)) (congrArg₂ (dotAt A B) (Fin.ext ?_) (Fin.ext ?_))
  · refine Eq.trans ?_ (Layout.idx_rows_val tiles_result c i).1.symm
    show 128 * c.val + (i 0).val = c.val * 128 + (i 0).val
    omega
  · exact (Layout.idx_rows_val tiles_result c i).2.symm

end Cert.KernelIdeal.A2A

end
-- ==== Proof.Reference.lean ====
module

public import proofs.«01_k».proof.Proof.Gen.ReferenceIdeal.Value
public import proofs.«01_k».proof.Proof.Table
public import Idealize.ShloMosaic.Lib.StableHlo.RunRead
public import Idealize.ShloMosaic.Lib.StackMember
public import Idealize.ShloMosaic.Lib.Pipeline.ValueKit.Geometry

/-! # What the reference computes

The whole product over its scale, clipped, and the scale: the two arrays that the last step multiplies. -/

@[expose] public section

noncomputable section

namespace Cert.ReferenceIdeal.A2A

open Cert.ReferenceIdeal Cert.ReferenceIdeal.Gen

open Idealize.ShloMosaic
open Idealize.ShloMosaic.TcCoe
open Idealize.ShloMosaic.ValueIdx

variable (m : (ℓ : Loc nD τ sig) → Buf (Elt Ideal) ℓ) (ρ : Dev nD → PrngReg)

variable (A : FVec Ideal S4096x4096 .f32) (B : FVec Ideal S4096x2048 .f32)

/-- The product. -/
def prod : FVec Ideal S4096x2048 .f32 := Host.dotGeneral dot_S4096x4096_S4096x2048_S4096x2048_1_0_0_1_n_n (some .fp32) A B

/-- Its scale. -/
def scale : FVec Ideal S_ .f32 :=
  Host.divf (Host.reduce FloatOps.maximumf (Host.absf (prod A B)) (constant S_ .f32 0xFF800000#32) reducesTo_S4096x2048_S_d0_1 h_S_) (constant S_ .f32 0x43E00000#32)

/-- The clipped quotient. -/
def quant : FVec Ideal S4096x2048 .f32 :=
  minimumf (broadcastInDim S4096x2048 ![] bcast_S_S4096x2048 (constant S_ .f32 0x43E00000#32 : FVec Ideal S_ .f32))
    (maximumf (broadcastInDim S4096x2048 ![] bcast_S_S4096x2048 (constant S_ .f32 0xC3E00000#32 : FVec Ideal S_ .f32))
      (Host.divf (prod A B) (broadcastInDim S4096x2048 ![] bcast_S_S4096x2048 (scale A B))))

variable (hA : ∀ c : Dev nD, m ((c : Thread nD τ).loc main_arg0) = A)
variable (hB : ∀ c : Dev nD, m ((c : Thread nD τ).loc main_arg1) = B)

include hA hB in
theorem V_v8 (c : Dev nD) : V m c main_v8 = (shapeCast S1x1 (scale A B) shapeCasts_S_S1x1 : FVec Ideal S1x1 .f32) := by
  have hA' : m (c, Proc.tc.devRef main_arg0) = A := hA c
  have hB' : m (c, Proc.tc.devRef main_arg1) = B := hB c
  unfold V
  after_reads_simp
  rw [hA', hB']
  rfl

include hA hB in
theorem V_v7 (c : Dev nD) : V m c main_v7 = (Host.convertf .fp8e4m3 (quant A B) : FVec Ideal S4096x2048 .fp8e4m3) := by
  have hA' : m (c, Proc.tc.devRef main_arg0) = A := hA c
  have hB' : m (c, Proc.tc.devRef main_arg1) = B := hB c
  unfold V
  after_reads_simp
  simp -implicitDefEqProofs only [StableHlo.TRef.ofBuf_toBuf, StableHlo.TRef.toBuf, StableHlo.TRef.ofBuf, cast_eq, id]
  rw [hA', hB']
  rfl

/-! ## At one element -/

open Cert.KernelIdeal.A2A (dotAt largest whole mag scaleOf clip requant)

theorem prod_apply (j : S4096x2048.Idx) : prod A B j = dotAt A B (j 0) (j 1) := by
  rw [eq_ix2 j]
  exact StackMember.dotGeneral_plain_apply (some .fp32) A B (j 0) (j 1)

theorem scale_apply (i : S_.Idx) : scale A B i = scaleOf (largest A B) := by
  have h : Host.reduce FloatOps.maximumf (Host.absf (prod A B)) (constant S_ .f32 0xFF800000#32) reducesTo_S4096x2048_S_d0_1 h_S_ i = largest A B := by
    rw [Host.reduce_eq_fold]
    refine Eq.trans (congrArg (fun b => Finset.fold _ b _ _) Cert.KernelIdeal.A2A.bits_bot) ?_
    refine (Cert.KernelIdeal.A2A.sup_of_fold _ (fun b => b.elim0) _ i).trans ?_
    exact Finset.sup_congr rfl fun j _ => congrArg mag (prod_apply A B j)
  exact congrArg₂ Ideal.div h Cert.KernelIdeal.A2A.bits_top

theorem quant_apply (j : S4096x2048.Idx) : quant A B j = clip (Ideal.div (dotAt A B (j 0) (j 1)) (scaleOf (largest A B))) := by
  have h : Host.divf (prod A B) (broadcastInDim S4096x2048 ![] bcast_S_S4096x2048 (scale A B)) j = Ideal.div (dotAt A B (j 0) (j 1)) (scaleOf (largest A B)) :=
    congrArg₂ Ideal.div (prod_apply A B j) (scale_apply A B _)
  exact congrArg₂ min Cert.KernelIdeal.A2A.bits_top (congrArg₂ max Cert.KernelIdeal.A2A.bits_low h)

/-! ## The result -/

attribute [local irreducible] quant scale dotAt largest prod

theorem read_v7 (c : Dev nD) (y : S4096x2048.Idx) : iblk m c 0 t0_0 y = V m c main_v7 y := by
  refine congrArg (V m c main_v7) (?_ : (win0_0.blk (0 : Fin 1)).view.emb y = y)
  funext a
  apply Fin.ext
  fin_cases a
  · show 0 * 4096 + 1 * (y 0).val = (y 0).val; omega
  · show 0 * 2048 + 1 * (y 1).val = (y 1).val; omega

theorem read_v8 (c : Dev nD) (y : S1x1.Idx) : iblk m c 1 t0_0 y = V m c main_v8 y := by
  refine congrArg (V m c main_v8) (?_ : (win0_1.blk (0 : Fin 1)).view.emb y = y)
  funext a
  apply Fin.ext
  fin_cases a
  · show 0 * 1 + 1 * (y 0).val = (y 0).val; omega
  · show 0 * 1 + 1 * (y 1).val = (y 1).val; omega

include hA hB in
/-- What the last step leaves, at one element. -/
theorem out_apply (c : Dev nD) (y : S4096x2048.Idx) : out0_2 (iblk m c 0 t0_0) (iblk m c 1 t0_0) y = whole A B y := by
  unfold out0_2
  rw [Value.canon2_eq]
  have h0 : View.ld (iblk m c 0 t0_0) r0_0 (Value.ix2_0 y) = clip (Ideal.div (dotAt A B (y 0) (y 1)) (scaleOf (largest A B))) := by
    refine (read_v7 m c _).trans ((congrFun (V_v7 m A B hA hB c) _).trans ?_)
    refine (quant_apply A B _).trans (congrArg (fun v => clip (Ideal.div v (scaleOf (largest A B)))) (congrArg₂ (dotAt A B) (Fin.ext ?_) (Fin.ext ?_)))
    · show 0 + 1 * (y 0).val = (y 0).val; omega
    · show 0 + 1 * (y 1).val = (y 1).val; omega
  have h1 : View.ld (iblk m c 1 t0_0) r0_1 (Value.ix2_1 y) = scaleOf (largest A B) :=
    (read_v8 m c _).trans ((congrFun (V_v8 m A B hA hB c) _).trans (scale_apply A B _))
  exact (congrArg₂ (fun a b : EReal => a * b) h0 h1).trans (Cert.KernelIdeal.A2A.clip_requant _ _ (Cert.KernelIdeal.A2A.le_largest A B _ _))

/-- The last step's one point writes the whole result. -/
theorem whole_result : win0_2.WholeAt t0_0 := by decide +kernel

include hA hB in
theorem result_eq (c : Dev nD) : (dats m 0 c).arrAt 2 cfg0.N = whole A B := by
  refine (dats m 0 c).arrAt_eq_of_after_last 2 t0_0 whole_result _ fun j => ?_
  have h : (dats m 0 c).after 2 t0_0 = whole A B := (after0_2 m c t0_0).trans (funext (out_apply m A B hA hB c))
  rw [h]
  clear h
  generalize whole A B = G
  rfl

/-- The reference's run: the result, and the arguments as they were. -/
theorem run_result : θ_run defs (onTc (τ := τ) (main (F := Ideal))) ⟨m, fun _ => 0, ρ⟩ (fun r => ∀ c : Dev nD,
    r.2.mem ((c : Thread nD τ).loc main_v9) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ⟨(h c).1.trans ?_, (h c).2⟩) (Value.run_blocks m ρ)
  refine result_eq m _ _ (fun d => ?_) (fun d => ?_) c
  · rw [Subsingleton.elim d c]
  · rw [Subsingleton.elim d c]

end Cert.ReferenceIdeal.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's text is the same read at words as at extended reals: the bodies the call runs, -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))
/-- and with them the whole program. -/
theorem programs_eq : @Cert.Kernel.defs Bits _ _ = @Cert.KernelIdeal.defs Bits _ _ :=
  congrArg (Pipeline.defs Cert.KernelIdeal.pcfgs) bodies_eq

/-- So the run, proved for both readings at once, is the kernel's too. -/
theorem frame_kernel : Cert.quiescent_Kernel (hKernel := Cert.Kernel.Gen.facts) := fun m ρ _ => by
  have h := Cert.KernelIdeal.A2A.run_frame (F := Bits) m ρ
  rw [← programs_eq] at h
  exact h

theorem frame_ideal : Cert.quiescent_KernelIdeal (hKernelIdeal := Cert.KernelIdeal.Gen.facts) := fun m ρ _ =>
  (θ_run Cert.KernelIdeal.defs _ _).mono (fun _ h => h) (Cert.KernelIdeal.A2A.run_frame (F := Ideal) m ρ)

/-- The kernel leaves on each device its rows of what the reference computes. -/
theorem algebraic : Cert.algebraic_KernelIdeal_ReferenceIdeal (hKernelIdeal := Cert.KernelIdeal.Gen.facts)
    (hReferenceIdeal := Cert.ReferenceIdeal.Gen.facts) := fun m g m' g' _ h =>
  ⟨Cert.KernelIdeal.A2A.whole _ _,
    (θ_run Cert.KernelIdeal.defs _ _).mono (fun _ hr c => ⟨(hr c).1.trans (Cert.KernelIdeal.A2A.outAt_block m _ _
      (fun d => (h d).1) (fun d => (h d).2) c), (hr c).2⟩) (Cert.KernelIdeal.A2A.run_result (F := Ideal) m g),
    (θ_run Cert.ReferenceIdeal.defs _ _).mono (fun _ hr => hr 0) (Cert.ReferenceIdeal.A2A.run_result m' g')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
